-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_tokens_in_vocab_scores_finite [hPre_tokens_in_vocab_scores_finite : Cert.Pre_tokens_in_vocab_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab_scores_finite [hPre_tokens_in_vocab_scores_finite : Cert.Pre_tokens_in_vocab_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Vocab (m : (ℓ : Loc Cert.Vocab.nD Cert.Vocab.τ Cert.Vocab.sig) → Buf (Elt Bits) ℓ) : Prop :=
  True

def Pre_VocabIdeal (m : (ℓ : Loc Cert.VocabIdeal.nD Cert.VocabIdeal.τ Cert.VocabIdeal.sig) → Buf (Elt Ideal) ℓ) : Prop :=
  True

def Pre_VocabReferenceIdeal (m : (ℓ : Loc Cert.VocabReferenceIdeal.nD Cert.VocabReferenceIdeal.τ Cert.VocabReferenceIdeal.sig) → Buf (Elt Ideal) ℓ) : Prop :=
  True

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tokens_in_vocab_scores_finite [hKernelIdeal : Cert.KernelIdeal.Facts] [hPre_tokens_in_vocab_scores_finite : Cert.Pre_tokens_in_vocab_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_vocab_scores_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tokens_in_vocab_scores_finite [hReferenceIdeal : Cert.ReferenceIdeal.Facts] [hPre_tokens_in_vocab_scores_finite : Cert.Pre_tokens_in_vocab_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Vocab [hVocab : Cert.Vocab.Facts] : Prop :=
  ∀ (m : (ℓ : Loc Cert.Vocab.nD Cert.Vocab.τ Cert.Vocab.sig) → Buf (Elt Bits) ℓ) (g : Dev Cert.Vocab.nD → PrngReg), Pre_Vocab m →
    θ_run (Cert.Vocab.defs (F := Bits)) (onTc (τ := Cert.Vocab.τ) (Cert.Vocab.main (F := Bits))) ⟨m, fun _ => 0, g⟩ (fun r => (∀ c : Dev Cert.Vocab.nD,
      r.2.mem ((c.tc : Thread Cert.Vocab.nD Cert.Vocab.τ).loc Cert.Vocab.main_arg0) = m ((c.tc : Thread Cert.Vocab.nD Cert.Vocab.τ).loc Cert.Vocab.main_arg0)
      ∧ r.2.mem ((c.tc : Thread Cert.Vocab.nD Cert.Vocab.τ).loc Cert.Vocab.main_arg1) = m ((c.tc : Thread Cert.Vocab.nD Cert.Vocab.τ).loc Cert.Vocab.main_arg1)
      ∧ r.2.mem ((c.tc : Thread Cert.Vocab.nD Cert.Vocab.τ).loc Cert.Vocab.main_arg2) = m ((c.tc : Thread Cert.Vocab.nD Cert.Vocab.τ).loc Cert.Vocab.main_arg2))
      ∧ r.2.sem = fun _ => 0)

def quiescent_VocabIdeal [hVocabIdeal : Cert.VocabIdeal.Facts] : Prop :=
  ∀ (m : (ℓ : Loc Cert.VocabIdeal.nD Cert.VocabIdeal.τ Cert.VocabIdeal.sig) → Buf (Elt Ideal) ℓ) (g : Dev Cert.VocabIdeal.nD → PrngReg), Pre_VocabIdeal m →
    θ_run (Cert.VocabIdeal.defs (F := Ideal)) (onTc (τ := Cert.VocabIdeal.τ) (Cert.VocabIdeal.main (F := Ideal))) ⟨m, fun _ => 0, g⟩ (fun r => (∀ c : Dev Cert.VocabIdeal.nD,
      r.2.mem ((c.tc : Thread Cert.VocabIdeal.nD Cert.VocabIdeal.τ).loc Cert.VocabIdeal.main_arg0) = m ((c.tc : Thread Cert.VocabIdeal.nD Cert.VocabIdeal.τ).loc Cert.VocabIdeal.main_arg0)
      ∧ r.2.mem ((c.tc : Thread Cert.VocabIdeal.nD Cert.VocabIdeal.τ).loc Cert.VocabIdeal.main_arg1) = m ((c.tc : Thread Cert.VocabIdeal.nD Cert.VocabIdeal.τ).loc Cert.VocabIdeal.main_arg1)
      ∧ r.2.mem ((c.tc : Thread Cert.VocabIdeal.nD Cert.VocabIdeal.τ).loc Cert.VocabIdeal.main_arg2) = m ((c.tc : Thread Cert.VocabIdeal.nD Cert.VocabIdeal.τ).loc Cert.VocabIdeal.main_arg2))
      ∧ r.2.sem = fun _ => 0)

def quiescent_VocabReferenceIdeal [hVocabReferenceIdeal : Cert.VocabReferenceIdeal.Facts] : Prop :=
  ∀ (m : (ℓ : Loc Cert.VocabReferenceIdeal.nD Cert.VocabReferenceIdeal.τ Cert.VocabReferenceIdeal.sig) → Buf (Elt Ideal) ℓ) (g : Dev Cert.VocabReferenceIdeal.nD → PrngReg), Pre_VocabReferenceIdeal m →
    θ_run (Cert.VocabReferenceIdeal.defs (F := Ideal)) (onTc (τ := Cert.VocabReferenceIdeal.τ) (Cert.VocabReferenceIdeal.main (F := Ideal))) ⟨m, fun _ => 0, g⟩ (fun r => (∀ c : Dev Cert.VocabReferenceIdeal.nD,
      r.2.mem ((c.tc : Thread Cert.VocabReferenceIdeal.nD Cert.VocabReferenceIdeal.τ).loc Cert.VocabReferenceIdeal.main_arg0) = m ((c.tc : Thread Cert.VocabReferenceIdeal.nD Cert.VocabReferenceIdeal.τ).loc Cert.VocabReferenceIdeal.main_arg0)
      ∧ r.2.mem ((c.tc : Thread Cert.VocabReferenceIdeal.nD Cert.VocabReferenceIdeal.τ).loc Cert.VocabReferenceIdeal.main_arg1) = m ((c.tc : Thread Cert.VocabReferenceIdeal.nD Cert.VocabReferenceIdeal.τ).loc Cert.VocabReferenceIdeal.main_arg1)
      ∧ r.2.mem ((c.tc : Thread Cert.VocabReferenceIdeal.nD Cert.VocabReferenceIdeal.τ).loc Cert.VocabReferenceIdeal.main_arg2) = m ((c.tc : Thread Cert.VocabReferenceIdeal.nD Cert.VocabReferenceIdeal.τ).loc Cert.VocabReferenceIdeal.main_arg2))
      ∧ r.2.sem = fun _ => 0)

def preserves_Kernel_KernelIdeal : Prop :=
  True

def algebraic_KernelIdeal_ReferenceIdeal_pre_tokens_in_vocab_scores_finite [hKernelIdeal : Cert.KernelIdeal.Facts] [hReferenceIdeal : Cert.ReferenceIdeal.Facts] [hPre_tokens_in_vocab_scores_finite : Cert.Pre_tokens_in_vocab_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_vocab_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Vocab_VocabIdeal : Prop :=
  True

def algebraic_VocabIdeal_VocabReferenceIdeal [hVocabIdeal : Cert.VocabIdeal.Facts] [hVocabReferenceIdeal : Cert.VocabReferenceIdeal.Facts] : Prop :=
  ∀ (m : (ℓ : Loc Cert.VocabIdeal.nD Cert.VocabIdeal.τ Cert.VocabIdeal.sig) → Buf (Elt Ideal) ℓ) (g : Dev Cert.VocabIdeal.nD → PrngReg)
    (m' : (ℓ : Loc Cert.VocabReferenceIdeal.nD Cert.VocabReferenceIdeal.τ Cert.VocabReferenceIdeal.sig) → Buf (Elt Ideal) ℓ) (g' : Dev Cert.VocabReferenceIdeal.nD → PrngReg), Pre_VocabIdeal m →
    (∀ c : Dev Cert.VocabIdeal.nD,
      m' ((c.tc : Thread Cert.VocabReferenceIdeal.nD Cert.VocabReferenceIdeal.τ).loc Cert.VocabReferenceIdeal.main_arg0) = m ((c.tc : Thread Cert.VocabIdeal.nD Cert.VocabIdeal.τ).loc Cert.VocabIdeal.main_arg0)
      ∧ m' ((c.tc : Thread Cert.VocabReferenceIdeal.nD Cert.VocabReferenceIdeal.τ).loc Cert.VocabReferenceIdeal.main_arg1) = m ((c.tc : Thread Cert.VocabIdeal.nD Cert.VocabIdeal.τ).loc Cert.VocabIdeal.main_arg1)
      ∧ m' ((c.tc : Thread Cert.VocabReferenceIdeal.nD Cert.VocabReferenceIdeal.τ).loc Cert.VocabReferenceIdeal.main_arg2) = m ((c.tc : Thread Cert.VocabIdeal.nD Cert.VocabIdeal.τ).loc Cert.VocabIdeal.main_arg2)) →
    ∃ (v0 : (c : Dev Cert.VocabIdeal.nD) → Buf (Elt Ideal) ((c.tc : Thread Cert.VocabIdeal.nD Cert.VocabIdeal.τ).loc Cert.VocabIdeal.main_v1)),
      θ_run (Cert.VocabIdeal.defs (F := Ideal)) (onTc (τ := Cert.VocabIdeal.τ) (Cert.VocabIdeal.main (F := Ideal))) ⟨m, fun _ => 0, g⟩ (fun r => ∀ c : Dev Cert.VocabIdeal.nD,
          r.2.mem ((c.tc : Thread Cert.VocabIdeal.nD Cert.VocabIdeal.τ).loc Cert.VocabIdeal.main_v1) = v0 c
          ∧ r.2.mem ((c.tc : Thread Cert.VocabIdeal.nD Cert.VocabIdeal.τ).loc Cert.VocabIdeal.main_arg0) = m ((c.tc : Thread Cert.VocabIdeal.nD Cert.VocabIdeal.τ).loc Cert.VocabIdeal.main_arg0)
          ∧ r.2.mem ((c.tc : Thread Cert.VocabIdeal.nD Cert.VocabIdeal.τ).loc Cert.VocabIdeal.main_arg1) = m ((c.tc : Thread Cert.VocabIdeal.nD Cert.VocabIdeal.τ).loc Cert.VocabIdeal.main_arg1)
          ∧ r.2.mem ((c.tc : Thread Cert.VocabIdeal.nD Cert.VocabIdeal.τ).loc Cert.VocabIdeal.main_arg2) = m ((c.tc : Thread Cert.VocabIdeal.nD Cert.VocabIdeal.τ).loc Cert.VocabIdeal.main_arg2))
      ∧ θ_run (Cert.VocabReferenceIdeal.defs (F := Ideal)) (onTc (τ := Cert.VocabReferenceIdeal.τ) (Cert.VocabReferenceIdeal.main (F := Ideal))) ⟨m', fun _ => 0, g'⟩ (fun r => ∀ c : Dev Cert.VocabReferenceIdeal.nD,
          r.2.mem ((c.tc : Thread Cert.VocabReferenceIdeal.nD Cert.VocabReferenceIdeal.τ).loc Cert.VocabReferenceIdeal.main_v5) = v0 c
          ∧ r.2.mem ((c.tc : Thread Cert.VocabReferenceIdeal.nD Cert.VocabReferenceIdeal.τ).loc Cert.VocabReferenceIdeal.main_arg0) = m' ((c.tc : Thread Cert.VocabReferenceIdeal.nD Cert.VocabReferenceIdeal.τ).loc Cert.VocabReferenceIdeal.main_arg0)
          ∧ r.2.mem ((c.tc : Thread Cert.VocabReferenceIdeal.nD Cert.VocabReferenceIdeal.τ).loc Cert.VocabReferenceIdeal.main_arg1) = m' ((c.tc : Thread Cert.VocabReferenceIdeal.nD Cert.VocabReferenceIdeal.τ).loc Cert.VocabReferenceIdeal.main_arg1)
          ∧ r.2.mem ((c.tc : Thread Cert.VocabReferenceIdeal.nD Cert.VocabReferenceIdeal.τ).loc Cert.VocabReferenceIdeal.main_arg2) = m' ((c.tc : Thread Cert.VocabReferenceIdeal.nD Cert.VocabReferenceIdeal.τ).loc Cert.VocabReferenceIdeal.main_arg2))

def Claim : Prop :=
  ∃ (hKernel : Cert.Kernel.Facts) (hKernelIdeal : Cert.KernelIdeal.Facts) (hReferenceIdeal : Cert.ReferenceIdeal.Facts) (hVocab : Cert.Vocab.Facts) (hVocabIdeal : Cert.VocabIdeal.Facts) (hVocabReferenceIdeal : Cert.VocabReferenceIdeal.Facts) (hPre_tokens_in_vocab : Cert.Pre_tokens_in_vocab.Facts) (hPre_tokens_in_vocab_scores_finite : Cert.Pre_tokens_in_vocab_scores_finite.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_KernelIdeal_pre_tokens_in_vocab_scores_finite (hKernelIdeal := hKernelIdeal) (hPre_tokens_in_vocab_scores_finite := hPre_tokens_in_vocab_scores_finite)
    ∧ quiescent_ReferenceIdeal (hReferenceIdeal := hReferenceIdeal)
    ∧ quiescent_ReferenceIdeal_pre_tokens_in_vocab_scores_finite (hReferenceIdeal := hReferenceIdeal) (hPre_tokens_in_vocab_scores_finite := hPre_tokens_in_vocab_scores_finite)
    ∧ quiescent_Vocab (hVocab := hVocab)
    ∧ quiescent_VocabIdeal (hVocabIdeal := hVocabIdeal)
    ∧ quiescent_VocabReferenceIdeal (hVocabReferenceIdeal := hVocabReferenceIdeal)
    ∧ preserves_Kernel_KernelIdeal
    ∧ algebraic_KernelIdeal_ReferenceIdeal_pre_tokens_in_vocab_scores_finite (hKernelIdeal := hKernelIdeal) (hReferenceIdeal := hReferenceIdeal) (hPre_tokens_in_vocab_scores_finite := hPre_tokens_in_vocab_scores_finite)
    ∧ preserves_Vocab_VocabIdeal
    ∧ algebraic_VocabIdeal_VocabReferenceIdeal (hVocabIdeal := hVocabIdeal) (hVocabReferenceIdeal := hVocabReferenceIdeal)
-- ==== Pre_tokens_in_vocab.lean ====
abbrev S1x2048 : Shape := ⟨2, ![1, 2048]⟩
abbrev S32000x1024 : Shape := ⟨2, ![32000, 1024]⟩
abbrev S1024x1024 : Shape := ⟨2, ![1024, 1024]⟩
abbrev S1024 : Shape := ⟨1, ![1024]⟩
abbrev S32000 : Shape := ⟨1, ![32000]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : IVec S1x2048 32) (main_arg1 : FVec F S32000x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_arg12 : FVec F S32000x1024 .f32) (main_arg13 : FVec F S32000 .f32) : IVec S1x2048 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 32000#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  main_v4
-- ==== Pre_tokens_in_vocab_scores_finite.lean ====
abbrev S1x2048 : Shape := ⟨2, ![1, 2048]⟩
abbrev S32000x1024 : Shape := ⟨2, ![32000, 1024]⟩
abbrev S1024x1024 : Shape := ⟨2, ![1024, 1024]⟩
abbrev S1024 : Shape := ⟨1, ![1024]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)

variable [Facts]

def fn_part1 {F : FTy → Type} [FloatOps F] (main_arg0 : IVec S1x2048 32) (main_arg5 : FVec F S1024 .f32) (main_v13 : IVec S_ 1) (main_v16 : IVec S1024x1024 1) : IVec S1x2048 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S1x2048 32 := broadcastInDim S1x2048 ![] bcast_S_S1x2048 main_c_8
  let main_v25 : IVec S1x2048 1 := cmpi .sge main_arg0 main_v24
  let main_c_9 : IVec S_ 32 := constantI S_ 32 32000#32
  let main_v26 : IVec S1x2048 32 := broadcastInDim S1x2048 ![] bcast_S_S1x2048 main_c_9
  let main_v27 : IVec S1x2048 1 := cmpi .slt main_arg0 main_v26
  let main_v28 : IVec S1x2048 1 := andi main_v25 main_v27
  let main_v29 : IVec S1x2048 1 := broadcastInDim S1x2048 ![] bcast_S_S1x2048 main_v23
  let main_v30 : IVec S1x2048 1 := andi main_v28 main_v29
  main_v30

def fn {F : FTy → Type} [FloatOps F] (main_arg0 : IVec S1x2048 32) (main_arg1 : FVec F S32000x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_arg12 : FVec F S32000x1024 .f32) (main_arg13 : FVec F S32000 .f32) : IVec S1x2048 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg5 main_v13 main_v16
-- ==== Kernel.lean ====
abbrev S1x2048 : Shape := ⟨2, ![1, 2048]⟩
abbrev S32000x1024 : Shape := ⟨2, ![32000, 1024]⟩
abbrev S1024x1024 : Shape := ⟨2, ![1024, 1024]⟩
abbrev S1024 : Shape := ⟨1, ![1024]⟩
abbrev S32000 : Shape := ⟨1, ![32000]⟩
abbrev S256000x128 : Shape := ⟨2, ![256000, 128]⟩
abbrev S2048x1 : Shape := ⟨2, ![2048, 1]⟩
abbrev S_ : Shape := ⟨0, ![]⟩
abbrev S8 : Shape := ⟨1, ![8]⟩
abbrev S1x8 : Shape := ⟨2, ![1, 8]⟩
abbrev S2048x8 : Shape := ⟨2, ![2048, 8]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S2048x1024 : Shape := ⟨2, ![2048, 1024]⟩
abbrev S1x1024 : Shape := ⟨2, ![1, 1024]⟩
abbrev S256x1024 : Shape := ⟨2, ![256, 1024]⟩
abbrev S512x1024 : Shape := ⟨2, ![512, 1024]⟩
abbrev S768x1024 : Shape := ⟨2, ![768, 1024]⟩
abbrev S768x1 : Shape := ⟨2, ![768, 1]⟩
abbrev S256x1 : Shape := ⟨2, ![256, 1]⟩
abbrev S256x768 : Shape := ⟨2, ![256, 768]⟩
abbrev S256 : Shape := ⟨1, ![256]⟩

abbrev nBuf : Table → Nat
  | .hbm => 34
  | .local .tc .vmem => 18
  | .local .scVector .vmem => 2
  | _ => 0

abbrev bufTy : (tb : Table) → Fin (nBuf tb) → BufTy
  | .hbm, ⟨0, _⟩ => ⟨S1x2048, .i32⟩
  | .hbm, ⟨1, _⟩ => ⟨S32000x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S32000x1024, .f32⟩
  | .hbm, ⟨13, _⟩ => ⟨S32000, .f32⟩
  | .hbm, ⟨14, _⟩ => ⟨S256000x128, .f32⟩
  | .hbm, ⟨15, _⟩ => ⟨S2048x1, .i32⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S8, .i32⟩
  | .hbm, ⟨20, _⟩ => ⟨S1x8, .i32⟩
  | .hbm, ⟨21, _⟩ => ⟨S2048x8, .i32⟩
  | .hbm, ⟨22, _⟩ => ⟨S2048x8, .i32⟩
  | .hbm, ⟨23, _⟩ => ⟨S2048x8, .i32⟩
  | .hbm, ⟨24, _⟩ => ⟨S1x16384, .i32⟩
  | .hbm, ⟨25, _⟩ => ⟨S16384x128, .f32⟩
  | .hbm, ⟨26, _⟩ => ⟨S2048x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S2048x1024, .bf16⟩
  | .local .tc .vmem, ⟨0, _⟩ => ⟨S256x1024, .f32⟩
  | .local .tc .vmem, ⟨1, _⟩ => ⟨S256x1024, .f32⟩
  | .local .tc .vmem, ⟨2, _⟩ => ⟨S256x1024, .f32⟩
  | .local .tc .vmem, ⟨3, _⟩ => ⟨S256x1024, .f32⟩
  | .local .tc .vmem, ⟨4, _⟩ => ⟨S1024x1024, .f32⟩
  | .local .tc .vmem, ⟨5, _⟩ => ⟨S1x1024, .f32⟩
  | .local .tc .vmem, ⟨6, _⟩ => ⟨S1024x1024, .f32⟩
  | .local .tc .vmem, ⟨7, _⟩ => ⟨S1x1024, .f32⟩
  | .local .tc .vmem, ⟨8, _⟩ => ⟨S1024x1024, .f32⟩
  | .local .tc .vmem, ⟨9, _⟩ => ⟨S1x1024, .f32⟩
  | .local .tc .vmem, ⟨10, _⟩ => ⟨S1024x1024, .f32⟩
  | .local .tc .vmem, ⟨11, _⟩ => ⟨S1x1024, .f32⟩
  | .local .tc .vmem, ⟨12, _⟩ => ⟨S1x1024, .f32⟩
  | .local .tc .vmem, ⟨13, _⟩ => ⟨S1x1024, .f32⟩
  | .local .tc .vmem, ⟨14, _⟩ => ⟨S256x1024, .bf16⟩
  | .local .tc .vmem, ⟨15, _⟩ => ⟨S256x1024, .bf16⟩
  | .local .tc .vmem, ⟨16, _⟩ => ⟨S2048x1024, .f32⟩
  | .local .tc .vmem, ⟨17, _⟩ => ⟨S2048x1024, .f32⟩
  | .local .scVector .vmem, ⟨0, _⟩ => ⟨S2x1x128, .i32⟩
  | .local .scVector .vmem, ⟨1, _⟩ => ⟨S2x128x128, .f32⟩
  | _, _ => ⟨S1x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v0_scv : Ref sig .scVector := ⟨.hbm, 14, rfl⟩
abbrev main_v9_scv : Ref sig .scVector := ⟨.hbm, 24, rfl⟩
abbrev main_v10_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg12_1 : Ref sig .tc := ⟨.vmem, 15, rfl⟩
abbrev cc1_scratch0 : Ref sig .tc := ⟨.vmem, 16, rfl⟩
abbrev cc1_scratch1 : Ref sig .tc := ⟨.vmem, 17, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem12_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S16384x128.size a)
theorem k0_off19_inb : ∀ (i : grid0.Coords) (v33_4_r0 : BitVec 32) (k0_hw5 : k0_chk5 i v33_4_r0), ∀ a, (k0_off19 i v33_4_r0) a + S128x128.size a ≤ S16384x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![8], ![false]⟩

def k1_off1 (i : grid1.Coords) : Fin 2 → Nat :=
  let arg0 : BitVec 32 := BitVec.ofNat 32 (i 0).val
  let c256_i32 : BitVec 32 := 256#32
  let v39 : BitVec 32 := Scalar.muli arg0 c256_i32
  let v40 : Index := Scalar.indexCast v39
  let c0_18 : Index := 0#32
  ![v40.toNat, 0]
def k1_mult1 (i : grid1.Coords) : BitVec 32 :=
  let arg0 : BitVec 32 := BitVec.ofNat 32 (i 0).val
  let c256_i32_21 : BitVec 32 := 256#32
  let v49 : BitVec 32 := Scalar.muli arg0 c256_i32_21
  let c512_i32 : BitVec 32 := 512#32
  let v50 : BitVec 32 := Scalar.subi v49 c512_i32
  let c0_i32_22 : BitVec 32 := 0#32
  let v51 : BitVec 32 := Scalar.maxsi v50 c0_i32_22
  v51
def k1_off2 (i : grid1.Coords) : Fin 2 → Nat :=
  let arg0 : BitVec 32 := BitVec.ofNat 32 (i 0).val
  let c256_i32_21 : BitVec 32 := 256#32
  let v49 : BitVec 32 := Scalar.muli arg0 c256_i32_21
  let c512_i32 : BitVec 32 := 512#32
  let v50 : BitVec 32 := Scalar.subi v49 c512_i32
  let c0_i32_22 : BitVec 32 := 0#32
  let v51 : BitVec 32 := Scalar.maxsi v50 c0_i32_22
  let v52 : BitVec 32 := v51
  let v53 : Index := Scalar.indexCast v52
  let c0_23 : Index := 0#32
  ![v53.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048 : Shape := ⟨2, ![1, 2048]⟩
abbrev S32000x1024 : Shape := ⟨2, ![32000, 1024]⟩
abbrev S1024x1024 : Shape := ⟨2, ![1024, 1024]⟩
abbrev S1024 : Shape := ⟨1, ![1024]⟩
abbrev S32000 : Shape := ⟨1, ![32000]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x1024 : Shape := ⟨2, ![2048, 1024]⟩
abbrev S2047x1024 : Shape := ⟨2, ![2047, 1024]⟩
abbrev S2046x1024 : Shape := ⟨2, ![2046, 1024]⟩
abbrev S2045x1024 : Shape := ⟨2, ![2045, 1024]⟩
abbrev S1x1024 : Shape := ⟨2, ![1, 1024]⟩
abbrev S1024x2048 : Shape := ⟨2, ![1024, 2048]⟩
abbrev S2048x2048 : Shape := ⟨2, ![2048, 2048]⟩

abbrev nBuf : Space → Nat
  | .hbm => 204
  | .vmem => 0
  | .smem => 0
  | _ => 0

abbrev hbmTy0_0 (i : Nat) : BufTy := match i % 128 with
  | 0 => ⟨S1x2048, .i32⟩
  | 1 => ⟨S32000x1024, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S1024, .f32⟩
  | 11 => ⟨S1024, .f32⟩
  | 12 => ⟨S32000x1024, .f32⟩
  | 13 => ⟨S32000, .f32⟩
  | 14 => ⟨S2048, .i32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S1, .i32⟩
  | 24 => ⟨S_, .i32⟩
  | 25 => ⟨S2048x1, .i32⟩
  | 26 => ⟨S2048x1, .i1⟩
  | 27 => ⟨S1x1, .i32⟩
  | 28 => ⟨S2048x1, .i32⟩
  | 29 => ⟨S2048x1, .i1⟩
  | 30 => ⟨S2048x1, .i1⟩
  | 31 => ⟨S_, .i1⟩
  | 32 => ⟨S2048, .i1⟩
  | 33 => ⟨S2048x1024, .f32⟩
  | 34 => ⟨S2048x1024, .i1⟩
  | 35 => ⟨S_, .f32⟩
  | 36 => ⟨S2048x1024, .f32⟩
  | 37 => ⟨S2048x1024, .f32⟩
  | 38 => ⟨S2047x1024, .f32⟩
  | 39 => ⟨S_, .i32⟩
  | 40 => ⟨S_, .f32⟩
  | 41 => ⟨S2048x1024, .f32⟩
  | 42 => ⟨S2048x1024, .f32⟩
  | 43 => ⟨S2046x1024, .f32⟩
  | 44 => ⟨S_, .i32⟩
  | 45 => ⟨S_, .f32⟩
  | 46 => ⟨S2048x1024, .f32⟩
  | 47 => ⟨S2048x1024, .f32⟩
  | 48 => ⟨S2045x1024, .f32⟩
  | 49 => ⟨S_, .i32⟩
  | 50 => ⟨S_, .f32⟩
  | 51 => ⟨S2048x1024, .f32⟩
  | 52 => ⟨S2048x1024, .f32⟩
  | 53 => ⟨S1024x1024, .f32⟩
  | 54 => ⟨S2048x1024, .f32⟩
  | 55 => ⟨S1x1024, .f32⟩
  | 56 => ⟨S2048x1024, .f32⟩
  | 57 => ⟨S2048x1024, .f32⟩
  | 58 => ⟨S1024x1024, .f32⟩
  | 59 => ⟨S2048x1024, .f32⟩
  | 60 => ⟨S1x1024, .f32⟩
  | 61 => ⟨S2048x1024, .f32⟩
  | 62 => ⟨S2048x1024, .f32⟩
  | 63 => ⟨S1024x1024, .f32⟩
  | 64 => ⟨S2048x1024, .f32⟩
  | 65 => ⟨S1x1024, .f32⟩
  | 66 => ⟨S2048x1024, .f32⟩
  | 67 => ⟨S2048x1024, .f32⟩
  | 68 => ⟨S1024x2048, .f32⟩
  | 69 => ⟨S2048x2048, .f32⟩
  | 70 => ⟨S_, .f32⟩
  | 71 => ⟨S2048x2048, .f32⟩
  | 72 => ⟨S2048x2048, .f32⟩
  | 73 => ⟨S2048, .i32⟩
  | 74 => ⟨S2048x1, .i32⟩
  | 75 => ⟨S2048, .i32⟩
  | 76 => ⟨S1x2048, .i32⟩
  | 77 => ⟨S_, .i32⟩
  | 78 => ⟨S_, .i32⟩
  | 79 => ⟨S2048x1, .i32⟩
  | 80 => ⟨S2048x1, .i32⟩
  | 81 => ⟨S2048x1, .i32⟩
  | 82 => ⟨S_, .i32⟩
  | 83 => ⟨S2048x1, .i32⟩
  | 84 => ⟨S2048x1, .i1⟩
  | 85 => ⟨S2048x1, .i32⟩
  | 86 => ⟨S2048x1, .i32⟩
  | 87 => ⟨S_, .i32⟩
  | 88 => ⟨S2048x1, .i32⟩
  | 89 => ⟨S2048x1, .i1⟩
  | 90 => ⟨S2048x1, .i1⟩
  | 91 => ⟨S_, .i32⟩
  | 92 => ⟨S2048x1, .i32⟩
  | 93 => ⟨S2048x1, .i32⟩
  | 94 => ⟨S2048x1, .i32⟩
  | 95 => ⟨S_, .i32⟩
  | 96 => ⟨S2048x1, .i32⟩
  | 97 => ⟨S2048x1, .i32⟩
  | 98 => ⟨S_, .i32⟩
  | 99 => ⟨S2048x1, .i32⟩
  | 100 => ⟨S2048x1, .i32⟩
  | 101 => ⟨S2048x2048, .i32⟩
  | 102 => ⟨S2048x2048, .i32⟩
  | 103 => ⟨S2048x2048, .i1⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S1x2048, .i32⟩
  | 111 => ⟨S1x2048, .i32⟩
  | 112 => ⟨S_, .i32⟩
  | 113 => ⟨S1x2048, .i32⟩
  | 114 => ⟨S1x2048, .i1⟩
  | 115 => ⟨S_, .i32⟩
  | 116 => ⟨S1x2048, .i32⟩
  | 117 => ⟨S1x2048, .i1⟩
  | 118 => ⟨S_, .i32⟩
  | 119 => ⟨S_, .i1⟩
  | 120 => ⟨S1x2048, .i1⟩
  | 121 => ⟨S1x2048, .i1⟩
  | 122 => ⟨S1x2048, .i1⟩
  | 123 => ⟨S1x2048, .i32⟩
  | 124 => ⟨S1x2048, .i32⟩
  | 125 => ⟨S1x2048, .i32⟩
  | 126 => ⟨S_, .i32⟩
  | 127 => ⟨S1x2048, .i32⟩
  | _ => ⟨S1x2048, .i32⟩

abbrev hbmTy0_1 (i : Nat) : BufTy := match i % 128 with
  | 0 => ⟨S1x2048, .i1⟩
  | 1 => ⟨S2048x2048, .i1⟩
  | 2 => ⟨S2048x2048, .i1⟩
  | 3 => ⟨S2048x2048, .i32⟩
  | 4 => ⟨S2048x2048, .i32⟩
  | 5 => ⟨S2048x2048, .i1⟩
  | 6 => ⟨S2048x2048, .i1⟩
  | 7 => ⟨S_, .f32⟩
  | 8 => ⟨S_, .f32⟩
  | 9 => ⟨S2048x2048, .f32⟩
  | 10 => ⟨S2048x2048, .f32⟩
  | 11 => ⟨S_, .f32⟩
  | 12 => ⟨S2048, .f32⟩
  | 13 => ⟨S_, .f32⟩
  | 14 => ⟨S2048, .f32⟩
  | 15 => ⟨S2048, .f32⟩
  | 16 => ⟨S2048x1, .f32⟩
  | 17 => ⟨S2048x2048, .f32⟩
  | 18 => ⟨S2048x2048, .f32⟩
  | 19 => ⟨S2048x2048, .f32⟩
  | 20 => ⟨S_, .f32⟩
  | 21 => ⟨S2048, .f32⟩
  | 22 => ⟨S2048x1, .f32⟩
  | 23 => ⟨S2048x2048, .f32⟩
  | 24 => ⟨S2048x2048, .f32⟩
  | 25 => ⟨S2048x1024, .f32⟩
  | 26 => ⟨S1024x1024, .f32⟩
  | 27 => ⟨S2048x1024, .f32⟩
  | 28 => ⟨S1x1024, .f32⟩
  | 29 => ⟨S2048x1024, .f32⟩
  | 30 => ⟨S2048x1024, .f32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S_, .i32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S2048x1024, .f32⟩
  | 47 => ⟨S_, .f32⟩
  | 48 => ⟨S_, .f32⟩
  | 49 => ⟨S_, .f32⟩
  | 50 => ⟨S_, .f32⟩
  | 51 => ⟨S2048, .f32⟩
  | 52 => ⟨S2048x1, .f32⟩
  | 53 => ⟨S2048x1, .f32⟩
  | 54 => ⟨S2048x1, .f32⟩
  | 55 => ⟨S_, .f32⟩
  | 56 => ⟨S_, .i1⟩
  | 57 => ⟨S_, .f32⟩
  | 58 => ⟨S_, .f32⟩
  | 59 => ⟨S2048x1, .f32⟩
  | 60 => ⟨S2048x1, .f32⟩
  | 61 => ⟨S2048x1024, .f32⟩
  | 62 => ⟨S2048x1024, .f32⟩
  | 63 => ⟨S_, .f32⟩
  | 64 => ⟨S2048x1, .f32⟩
  | 65 => ⟨S2048x1, .f32⟩
  | 66 => ⟨S2048x1, .f32⟩
  | 67 => ⟨S2048x1024, .f32⟩
  | 68 => ⟨S2048x1024, .f32⟩
  | 69 => ⟨S1x1024, .f32⟩
  | 70 => ⟨S2048x1024, .f32⟩
  | 71 => ⟨S2048x1024, .f32⟩
  | 72 => ⟨S1x1024, .f32⟩
  | 73 => ⟨S2048x1024, .f32⟩
  | 74 => ⟨S2048x1024, .f32⟩
  | 75 => ⟨S2048x1024, .bf16⟩
  | _ => ⟨S1x2048, .i32⟩

abbrev hbmTy (i : Nat) : BufTy := match i / 128 with
  | 0 => hbmTy0_0 i
  | 1 => hbmTy0_1 i
  | _ => ⟨S1x2048, .i32⟩

abbrev bufTy : (tb : Table) → Fin (tcTables nBuf tb) → BufTy
  | .hbm, ⟨i, _⟩ => hbmTy i
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v1 : Ref sig .tc := ⟨.hbm, 37, rfl⟩
abbrev main_v2 : Ref sig .tc := ⟨.hbm, 38, rfl⟩
abbrev main_c : Ref sig .tc := ⟨.hbm, 39, rfl⟩
abbrev main_call1_v0 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_c_0 : Ref sig .tc := ⟨.hbm, 44, rfl⟩
abbrev main_call2_v0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_c_1 : Ref sig .tc := ⟨.hbm, 49, rfl⟩
abbrev main_call3_v0 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_2 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_c : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_c_0 : Ref sig .tc := ⟨.hbm, 91, rfl⟩
abbrev main_call4_v12 : Ref sig .tc := ⟨.hbm, 92, rfl⟩
abbrev main_call4_v13 : Ref sig .tc := ⟨.hbm, 93, rfl⟩
abbrev main_v34 : Ref sig .tc := ⟨.hbm, 94, rfl⟩
abbrev main_c_3 : Ref sig .tc := ⟨.hbm, 95, rfl⟩
abbrev main_v35 : Ref sig .tc := ⟨.hbm, 96, rfl⟩
abbrev main_v36 : Ref sig .tc := ⟨.hbm, 97, rfl⟩
abbrev main_c_4 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_c_5 : Ref sig .tc := ⟨.hbm, 104, rfl⟩
abbrev main_call5_v0 : Ref sig .tc := ⟨.hbm, 105, rfl⟩
abbrev main_call5_c : Ref sig .tc := ⟨.hbm, 106, rfl⟩
abbrev main_call5_v1 : Ref sig .tc := ⟨.hbm, 107, rfl⟩
abbrev main_call5_c_0 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_c_1 : Ref sig .tc := ⟨.hbm, 112, rfl⟩
abbrev main_call5_v5 : Ref sig .tc := ⟨.hbm, 113, rfl⟩
abbrev main_call5_v6 : Ref sig .tc := ⟨.hbm, 114, rfl⟩
abbrev main_call5_c_2 : Ref sig .tc := ⟨.hbm, 115, rfl⟩
abbrev main_call5_v7 : Ref sig .tc := ⟨.hbm, 116, rfl⟩
abbrev main_call5_v8 : Ref sig .tc := ⟨.hbm, 117, rfl⟩
abbrev main_call5_c_3 : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_v12 : Ref sig .tc := ⟨.hbm, 122, rfl⟩
abbrev main_call5_v13 : Ref sig .tc := ⟨.hbm, 123, rfl⟩
abbrev main_call5_v14 : Ref sig .tc := ⟨.hbm, 124, rfl⟩
abbrev main_v42 : Ref sig .tc := ⟨.hbm, 125, rfl⟩
abbrev main_c_6 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_cst_7 : Ref sig .tc := ⟨.hbm, 135, rfl⟩
abbrev main_call6_v0 : Ref sig .tc := ⟨.hbm, 136, rfl⟩
abbrev main_call6_v1 : Ref sig .tc := ⟨.hbm, 137, rfl⟩
abbrev main_v51 : Ref sig .tc := ⟨.hbm, 138, rfl⟩
abbrev main_cst_8 : Ref sig .tc := ⟨.hbm, 139, rfl⟩
abbrev main_v52 : Ref sig .tc := ⟨.hbm, 140, rfl⟩
abbrev main_cst_9 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_cst_10 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_cst_11 : Ref sig .tc := ⟨.hbm, 159, rfl⟩
abbrev main_v69 : Ref sig .tc := ⟨.hbm, 160, rfl⟩
abbrev main_v70 : Ref sig .tc := ⟨.hbm, 161, rfl⟩
abbrev main_cst_12 : Ref sig .tc := ⟨.hbm, 162, rfl⟩
abbrev main_v71 : Ref sig .tc := ⟨.hbm, 163, rfl⟩
abbrev main_v72 : Ref sig .tc := ⟨.hbm, 164, rfl⟩
abbrev main_c_13 : Ref sig .tc := ⟨.hbm, 165, rfl⟩
abbrev main_call7_cst : Ref sig .tc := ⟨.hbm, 166, rfl⟩
abbrev main_call7_v0 : Ref sig .tc := ⟨.hbm, 167, rfl⟩
abbrev main_call7_v1 : Ref sig .tc := ⟨.hbm, 168, rfl⟩
abbrev main_call7_cst_0 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_v5 : Ref sig .tc := ⟨.hbm, 173, rfl⟩
abbrev main_call7_v6 : Ref sig .tc := ⟨.hbm, 174, rfl⟩
abbrev main_call7_v7 : Ref sig .tc := ⟨.hbm, 175, rfl⟩
abbrev main_call7_cst_1 : Ref sig .tc := ⟨.hbm, 176, rfl⟩
abbrev main_call7_v8 : Ref sig .tc := ⟨.hbm, 177, rfl⟩
abbrev main_call7_cst_2 : Ref sig .tc := ⟨.hbm, 178, rfl⟩
abbrev main_call7_v9 : Ref sig .tc := ⟨.hbm, 179, rfl⟩
abbrev main_call7_v10 : Ref sig .tc := ⟨.hbm, 180, rfl⟩
abbrev main_call7_v11 : Ref sig .tc := ⟨.hbm, 181, rfl⟩
abbrev main_call7_v12 : Ref sig .tc := ⟨.hbm, 182, rfl⟩
abbrev main_call7_cst_3 : Ref sig .tc := ⟨.hbm, 183, rfl⟩
abbrev main_call7_v13 : Ref sig .tc := ⟨.hbm, 184, rfl⟩
abbrev main_call7_cst_4 : Ref sig .tc := ⟨.hbm, 185, rfl⟩
abbrev main_call7_call0_v0 : Ref sig .tc := ⟨.hbm, 186, rfl⟩
abbrev main_call7_call0_v1 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_cst_14 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩

abbrev nD : Nat := 1
abbrev τ : Topo := Topo.v7x

variable {F : FTy → Type} [FloatOps F]
-- ==== Vocab.lean ====
abbrev S2048x1024 : Shape := ⟨2, ![2048, 1024]⟩
abbrev S32000x1024 : Shape := ⟨2, ![32000, 1024]⟩
abbrev S32000 : Shape := ⟨1, ![32000]⟩
abbrev S1x32000 : Shape := ⟨2, ![1, 32000]⟩
abbrev S2048x32000 : Shape := ⟨2, ![2048, 32000]⟩
abbrev S1280x1024 : Shape := ⟨2, ![1280, 1024]⟩
abbrev S1x1280 : Shape := ⟨2, ![1, 1280]⟩
abbrev S2048x1280 : Shape := ⟨2, ![2048, 1280]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S32000x1024, .f32⟩
  | .hbm, ⟨2, _⟩ => ⟨S32000, .f32⟩
  | .hbm, ⟨3, _⟩ => ⟨S1x32000, .f32⟩
  | .hbm, ⟨4, _⟩ => ⟨S2048x32000, .f32⟩
  | .local _ .vmem, ⟨0, _⟩ => ⟨S2048x1024, .bf16⟩
  | .local _ .vmem, ⟨1, _⟩ => ⟨S1280x1024, .f32⟩
  | .local _ .vmem, ⟨2, _⟩ => ⟨S1280x1024, .f32⟩
  | .local _ .vmem, ⟨3, _⟩ => ⟨S1x1280, .f32⟩
  | .local _ .vmem, ⟨4, _⟩ => ⟨S1x1280, .f32⟩
  | .local _ .vmem, ⟨5, _⟩ => ⟨S2048x1280, .f32⟩
  | .local _ .vmem, ⟨6, _⟩ => ⟨S2048x1280, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== VocabReferenceIdeal.lean ====
abbrev S2048x1024 : Shape := ⟨2, ![2048, 1024]⟩
abbrev S32000x1024 : Shape := ⟨2, ![32000, 1024]⟩
abbrev S32000 : Shape := ⟨1, ![32000]⟩
abbrev S1024x32000 : Shape := ⟨2, ![1024, 32000]⟩
abbrev S2048x32000 : Shape := ⟨2, ![2048, 32000]⟩
abbrev S1x32000 : Shape := ⟨2, ![1, 32000]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S32000x1024, .f32⟩
  | .hbm, ⟨2, _⟩ => ⟨S32000, .f32⟩
  | .hbm, ⟨3, _⟩ => ⟨S2048x1024, .f32⟩
  | .hbm, ⟨4, _⟩ => ⟨S1024x32000, .f32⟩
  | .hbm, ⟨5, _⟩ => ⟨S2048x32000, .f32⟩
  | .hbm, ⟨6, _⟩ => ⟨S1x32000, .f32⟩
  | .hbm, ⟨7, _⟩ => ⟨S2048x32000, .f32⟩
  | .hbm, ⟨8, _⟩ => ⟨S2048x32000, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Words.lean ====
/-
  The words of the gather kernel's counted loop. Each tile takes four blocks of 128 row numbers; the loop carries five
  words, and every offset and condition of a trip is computed from them and from the tile's coordinates. Here each of
  them is put in closed form at the values it takes: before trip `t` the words are `min (t+1) 4`, `t`, `t`, `t - 1` and
  `t` (the last `0` after the last trip), and a tile's first row is `512·(its subcore) + 8192·(its core)`.
-/
module

public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The word of a small number. -/
abbrev wd (n : ℕ) : BitVec 32 := BitVec.ofNat 32 n

/-- The first row number of the tile at `i`. -/
abbrev base (i : grid0.Coords) : ℕ := 512 * (i 1).val + 8192 * (i 0).val

theorem base_le (i : grid0.Coords) : base i ≤ 15872 := by
  have h1 : (i 1).val < 16 := (i 1).isLt
  have h0 : (i 0).val < 2 := (i 0).isLt
  unfold base; omega

/-- A trip's number, as one of four. -/
abbrev trip (t : Fin 4) : Fin k0_t1_loop.trips := ⟨t.val, lt_of_lt_of_eq t.isLt (by decide)⟩

theorem off4_at : ∀ n : Fin 5, k0_off4 (wd n.val) = ![n.val % 2, 0, 0] := by decide +kernel
theorem off6_at : ∀ n : Fin 5, k0_off6 (wd n.val) = ![n.val % 2] := by decide +kernel
theorem off5_at : ∀ (i : grid0.Coords) (n : Fin 3), k0_off5 i (wd n.val) = ![0, base i + 128 * (n.val + 1)] := by decide +kernel
theorem off7_at : ∀ n : Fin 4, k0_off7 (wd n.val) = ![n.val % 2, 0, 0] := by decide +kernel
theorem off9_at : ∀ n : Fin 4, k0_off9 (wd n.val) = ![n.val % 2] := by decide +kernel
theorem off8_at : ∀ (i : grid0.Coords) (n : Fin 4), k0_off8 i (wd n.val) = ![0, base i + 128 * n.val] := by decide +kernel
theorem off10_at : ∀ n : Fin 4, k0_off10 (wd n.val) = ![n.val % 2, 0, 0] := by decide +kernel
theorem off11_at : ∀ n : Fin 4, k0_off11 (wd n.val) = ![n.val % 2, 0, 0] := by decide +kernel
theorem off12_at : ∀ n : Fin 4, k0_off12 (wd n.val) = ![n.val % 2, 0, 0] := by decide +kernel
theorem off14_at : ∀ n : Fin 4, k0_off14 (wd n.val) = ![n.val % 2] := by decide +kernel
theorem off13_at : ∀ (i : grid0.Coords) (n : Fin 4), k0_off13 i (wd n.val) = ![base i + 128 * n.val, 0] := by decide +kernel
theorem off15_at : ∀ n : Fin 4, k0_off15 (wd n.val) = ![n.val % 2, 0, 0] := by decide +kernel
theorem off17_at : ∀ n : Fin 4, k0_off17 (wd n.val) = ![n.val % 2] := by decide +kernel
theorem off16_at : ∀ (i : grid0.Coords) (n : Fin 3), k0_off16 i (wd (n.val + 1)) = ![base i + 128 * n.val, 0] := by decide +kernel
theorem off19_at : ∀ i : grid0.Coords, k0_off19 i (wd 0) = ![base i + 128 * 3, 0] := by decide +kernel
theorem off20_at : k0_off20 (wd 3) = ![1] := by decide +kernel
theorem off21_at : k0_off21 (wd 3) = ![1, 0, 0] := by decide +kernel
theorem off2_at : ∀ i : grid0.Coords, k0_off2 i = ![0, base i + 128 * 0] := by decide +kernel

theorem cond1_at : ∀ (i : grid0.Coords) (t : Fin 4), (k0_cond1 i (trip t) (wd t.val) = 1#1) ↔ t.val < 3 := by decide +kernel
theorem cond2_at : ∀ (i : grid0.Coords) (t : Fin 4), k0_cond2 i (trip t) (wd t.val) = 1#1 := by decide +kernel
theorem cond5_at : ∀ (i : grid0.Coords) (t : Fin 4), k0_cond5 i (trip t) (wd t.val) = 1#1 := by decide +kernel
theorem cond7_at : ∀ (i : grid0.Coords) (t : Fin 4), (k0_cond7 i (trip t) (wd t.val) = 1#1) ↔ 0 < t.val := by decide +kernel

theorem chk2_at : ∀ n : Fin 4, k0_chk2 (wd n.val) := by decide +kernel
theorem chk3_at : ∀ n : Fin 4, k0_chk3 (wd n.val) := by decide +kernel
theorem chk1_at : ∀ (i : grid0.Coords) (t : Fin 4),
    k0_chk1 i (trip t) (wd (t.val + 1)) (wd t.val) (wd t.val) (wd (t.val - 1)) (wd t.val) := by decide +kernel
theorem chk4_at : k0_chk4 (wd 3) := by decide +kernel
theorem chk5_at : ∀ i : grid0.Coords, k0_chk5 i (wd 0) := by decide +kernel

/-- The carried words before trip `n`. -/
def words (n : ℕ) : BitVec 32 × BitVec 32 × BitVec 32 × BitVec 32 × BitVec 32 :=
  (wd (min (n + 1) 4), wd n, wd n, wd (n - 1), wd (n % 4))

/-- The tile's number, four times: the word the loop's arithmetic starts from. -/
def tileWord (i : grid0.Coords) : BitVec 32 :=
  Scalar.muli (Scalar.addi (Scalar.addi 0#32 (Scalar.muli (BitVec.ofNat 32 (i 1).val) 1#32)) (Scalar.muli (BitVec.ofNat 32 (i 0).val) 16#32)) 4#32

end Cert.Proof.Words

end
-- ==== Proof.Pieces.lean ====
/-
  The pieces of memory that one tile of the gather works on. The row numbers and the result are each cut into 128
  blocks of 128 rows; tile `i` has blocks `0 … 3` counted from its first row `base i`. Its scratch has two slots for
  row numbers and two for gathered rows, used in turn. Here are those pieces as views, the result `gathered` that the
  tiles' blocks make up, and what the views read: a slot holding a block of row numbers makes the indirect transfer
  deliver that block of `gathered`.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Pieces

open Cert.KernelIdeal Cert.KernelIdeal.Gen Cert.Proof.Words
open Idealize.ShloMosaic
open Idealize.ShloMosaic.SparseCore (S V T)

variable {F : FTy → Type}

/-- Indices of the arrays, by their coordinates. -/
def atI (r : Fin 16384) : S1x16384.Idx := fun | 0 => (0 : Fin 1) | 1 => r
def atT (r : Fin 256000) (c : Fin 128) : S256000x128.Idx := fun | 0 => r | 1 => c
def atB (y : Fin 128) : S1x128.Idx := fun | 0 => (0 : Fin 1) | 1 => y
def atL (y : Fin 128) : S128.Idx := fun | 0 => y

theorem atI_ext {r : Fin 16384} {j : S1x16384.Idx} (h1 : (j 1).val = r.val) : j = atI r := by
  funext x; match x with
  | 0 => exact Subsingleton.elim (α := Fin 1) _ _
  | 1 => exact Fin.ext h1
theorem atT_ext {r : Fin 256000} {c : Fin 128} {j : S256000x128.Idx} (h0 : (j 0).val = r.val) (h1 : (j 1).val = c.val) : j = atT r c := by
  funext x; match x with
  | 0 => exact Fin.ext h0
  | 1 => exact Fin.ext h1
theorem atB_ext {y : Fin 128} {j : S1x128.Idx} (h1 : (j 1).val = y.val) : j = atB y := by
  funext x; match x with
  | 0 => exact Subsingleton.elim (α := Fin 1) _ _
  | 1 => exact Fin.ext h1

/-! ## The views, at given offsets -/

/-- A block of row numbers. -/
abbrev idxM (o : Fin 2 → ℕ) (h : ∀ a, o a + S1x128.size a ≤ S1x16384.size a) : Memref sig .scVector .hbm S1x128 .i32 :=
  (Memref.whole main_v9_scv).slice (Rect.unit (s := S1x16384) o S1x128.size h) (fun _ => rfl)
/-- A block of the result's rows. -/
abbrev outM (o : Fin 2 → ℕ) (h : ∀ a, o a + S128x128.size a ≤ S16384x128.size a) : Memref sig .scVector .hbm S128x128 .f32 :=
  (Memref.whole main_v10_scv).slice (Rect.unit (s := S16384x128) o S128x128.size h) (fun _ => rfl)
/-- A slot for row numbers. -/
abbrev inM (o : Fin 3 → ℕ) (h : ∀ a, o a + S1x1x128.size a ≤ S2x1x128.size a) : Memref sig .scVector .vmem S1x128 .i32 :=
  ((Memref.whole cc0_scoped0).slice (Rect.unit (s := S2x1x128) o S1x1x128.size h) (fun _ => rfl)).squeeze S1x128 squeezes_S1x1x128_S1x128
/-- The same slot as the indirect transfer's list. -/
abbrev listM (o : Fin 3 → ℕ) (h : ∀ a, o a + S1x1x128.size a ≤ S2x1x128.size a) : Memref sig .scVector .vmem S128 .i32 :=
  ((inM o h).slice (Rect.unit (s := S1x128) ![0, 0] S1x128.size inb_S1x128_S1x128_0_0) (fun _ => rfl)).squeeze S128 squeezes_S1x128_S128
/-- A slot for gathered rows. -/
abbrev rowsM (o : Fin 3 → ℕ) (h : ∀ a, o a + S1x128x128.size a ≤ S2x128x128.size a) : Memref sig .scVector .vmem S128x128 .f32 :=
  ((Memref.whole cc0_scoped2).slice (Rect.unit (s := S2x128x128) o S1x128x128.size h) (fun _ => rfl)).squeeze S128x128 squeezes_S1x128x128_S128x128
/-- The table, whole. -/
abbrev tabM : Memref sig .scVector .hbm S256000x128 .f32 :=
  (Memref.whole main_v0_scv).slice (Rect.unit (s := S256000x128) ![0, 0] S256000x128.size inb_S256000x128_S256000x128_0_0) (fun _ => rfl)
/-- The cell of the slots' arrivals of row numbers, and that of the departures of rows. -/
abbrev semI (o : Fin 1 → ℕ) (h : ∀ a, o a + S1.size a ≤ S2.size a) : DmaSem sig :=
  ((cc0_scoped1.slice (Rect.unit (s := S2) o S1.size h)).squeeze S_ squeezes_S1_S_).sem
abbrev semO (o : Fin 1 → ℕ) (h : ∀ a, o a + S1.size a ≤ S2.size a) : DmaSem sig :=
  ((cc0_scoped3.slice (Rect.unit (s := S2) o S1.size h)).squeeze S_ squeezes_S1_S_).sem

/-! ## At block `k` of tile `i`, and slot `s` -/

theorem idx_inb (i : grid0.Coords) (k : Fin 4) : ∀ a, (![0, base i + 128 * k.val] : Fin 2 → ℕ) a + S1x128.size a ≤ S1x16384.size a := by
  have := base_le i; have := k.isLt
  intro a; match a with
  | 0 => show 0 + 1 ≤ 1; omega
  | 1 => show base i + 128 * k.val + 128 ≤ 16384; omega
theorem out_inb (i : grid0.Coords) (k : Fin 4) : ∀ a, (![base i + 128 * k.val, 0] : Fin 2 → ℕ) a + S128x128.size a ≤ S16384x128.size a := by
  have := base_le i; have := k.isLt
  intro a; match a with
  | 0 => show base i + 128 * k.val + 128 ≤ 16384; omega
  | 1 => show 0 + 128 ≤ 128; omega
theorem in_inb (s : Fin 2) : ∀ a, (![s.val, 0, 0] : Fin 3 → ℕ) a + S1x1x128.size a ≤ S2x1x128.size a := by
  have := s.isLt
  intro a; match a with
  | 0 => show s.val + 1 ≤ 2; omega
  | 1 => show 0 + 1 ≤ 1; omega
  | 2 => show 0 + 128 ≤ 128; omega
theorem rows_inb (s : Fin 2) : ∀ a, (![s.val, 0, 0] : Fin 3 → ℕ) a + S1x128x128.size a ≤ S2x128x128.size a := by
  have := s.isLt
  intro a; match a with
  | 0 => show s.val + 1 ≤ 2; omega
  | 1 => show 0 + 128 ≤ 128; omega
  | 2 => show 0 + 128 ≤ 128; omega
theorem sem_inb (s : Fin 2) : ∀ a, (![s.val] : Fin 1 → ℕ) a + S1.size a ≤ S2.size a := by
  have := s.isLt
  intro a; match a with
  | 0 => show s.val + 1 ≤ 2; omega

abbrev idxB (i : grid0.Coords) (k : Fin 4) := idxM ![0, base i + 128 * k.val] (idx_inb i k)
abbrev outB (i : grid0.Coords) (k : Fin 4) := outM ![base i + 128 * k.val, 0] (out_inb i k)
abbrev inS (s : Fin 2) := inM ![s.val, 0, 0] (in_inb s)
abbrev listS (s : Fin 2) := listM ![s.val, 0, 0] (in_inb s)
abbrev rowsS (s : Fin 2) := rowsM ![s.val, 0, 0] (rows_inb s)
abbrev semIS (s : Fin 2) : DmaSem sig := semI ![s.val] (sem_inb s)
abbrev semOS (s : Fin 2) : DmaSem sig := semO ![s.val] (sem_inb s)

/-! ## What the tiles make -/

/-- The row of the table that row `r` of the result takes: the row number there, wrapped into the table (the proof
    has it in range, so that nothing wraps). -/
def rowOf (fi : S1x16384.Idx → BitVec 32) (r : Fin 16384) : Fin 256000 := ⟨(fi (atI r)).toNat % 256000, Nat.mod_lt _ (by decide)⟩

/-- The gathered rows, from the table and the row numbers. -/
def gathered (ft : S256000x128.Idx → Elt F .f32) (fi : S1x16384.Idx → BitVec 32) : S16384x128.Idx → Elt F .f32 :=
  fun j => ft (atT (rowOf fi (j 0)) (j 1))

/-- Every row number names a row of the table. -/
def InRange (fi : S1x16384.Idx → BitVec 32) : Prop := ∀ j, (fi j).toNat < 256000

/-! ## What the views read -/

theorem idxB_read (i : grid0.Coords) (k : Fin 4) (fi : S1x16384.Idx → BitVec 32) (y : Fin 128) :
    (idxB i k).view.read (Elt F) fi (atB y)
      = fi (atI ⟨base i + 128 * k.val + y.val, by have := base_le i; have := k.isLt; have := y.isLt; omega⟩) := by
  refine (View.read_apply _ _).trans ((cast_eq _ _).trans (congrArg fi (atI_ext ?_)))
  · show base i + 128 * k.val + 1 * y.val = base i + 128 * k.val + y.val; omega

theorem outB_emb (i : grid0.Coords) (k : Fin 4) (x : S128x128.Idx) :
    ((outB i k).view.emb x 0).val = base i + 128 * k.val + (x 0).val ∧ (outB i k).view.emb x 1 = x 1 := by
  constructor
  · show base i + 128 * k.val + 1 * (x 0).val = _; omega
  · refine Fin.ext ?_; show 0 + 1 * (x 1).val = _; omega

/-- The list's entry `y` is the slot's. -/
theorem listS_read (s : Fin 2) (f : S2x1x128.Idx → BitVec 32) (y : Fin 128) :
    (listS s).view.read (Elt F) f (atL y) = (inS s).view.read (Elt F) f (atB y) := by
  show f ((listS s).view.emb (atL y)) = f ((inS s).view.emb (atB y))
  refine congrArg f ?_
  refine congrArg (inS s).view.emb ((congrArg _ (Shape.reshapeEquiv_eq_of_rowMajor squeezes_S1x128_S128.numel_eq (y := atB y) ?_)).trans (atB_ext ?_))
  · refine (Shape.rowMajor_val_two (atB y)).trans ((Shape.rowMajor_val_one (atL y)).symm ▸ ?_)
    show 0 * 128 + y.val = y.val; omega
  · show 0 + 1 * y.val = y.val; omega

theorem tabM_read (ft : S256000x128.Idx → Elt F .f32) : (tabM).view.read (Elt F) ft = ft := by
  funext j
  refine (View.read_apply _ _).trans ((cast_eq _ _).trans (congrArg ft ?_))
  funext a
  refine Fin.ext ?_
  match a with
  | 0 => show 0 + 1 * (j 0).val = _; omega
  | 1 => show 0 + 1 * (j 1).val = _; omega

/-- A slot holding block `k` of the row numbers names rows in range. -/
theorem list_inb {i : grid0.Coords} {k : Fin 4} {s : Fin 2} {fi : S1x16384.Idx → BitVec 32} {f : S2x1x128.Idx → BitVec 32} (hr : InRange fi)
    (hf : (inS s).view.read (Elt F) f = (idxB i k).view.read (Elt F) fi) :
    ∀ x, ((listS s).view.read (Elt F) f x).toNat < S256000x128.size gathers_S256000x128_S128x128.axis := by
  intro x
  have hx : x = atL (x 0) := by funext a; match a with | 0 => rfl
  have e := (congrArg _ hx).trans ((listS_read (F := F) s f (x 0)).trans ((congrFun hf _).trans (idxB_read i k fi (x 0))))
  exact lt_of_eq_of_lt (congrArg BitVec.toNat e) (hr _)

/-- And the indirect transfer over it delivers block `k` of the gathered rows. -/
theorem payload_eq {i : grid0.Coords} {k : Fin 4} {s : Fin 2} {fi : S1x16384.Idx → BitVec 32} {ft : S256000x128.Idx → Elt F .f32}
    {f : S2x1x128.Idx → BitVec 32} (hr : InRange fi)
    (hf : (inS s).view.read (Elt F) f = (idxB i k).view.read (Elt F) fi)
    (hin : ∀ x, ((listS s).view.read (Elt F) f x).toNat < S256000x128.size gathers_S256000x128_S128x128.axis) :
    SparseCore.gatherPayload gathers_S256000x128_S128x128 ((tabM).view.read (Elt F) ft)
        (SparseCore.rows ((listS s).view.read (Elt F) f) (rfl : S128.numel = S128x128.size gathers_S256000x128_S128x128.axis') hin)
      = (outB i k).view.read (Elt F) (gathered ft fi) := by
  funext x
  rw [tabM_read]
  refine Eq.trans ?_ ((View.read_apply _ _).trans (cast_eq _ _)).symm
  obtain ⟨e0, e1⟩ := outB_emb i k x
  refine congrArg ft (atT_ext ?_ ?_)
  · refine (congrArg Fin.val (Shape.Gathers.idx_axis gathers_S256000x128_S128x128 _ x)).trans ?_
    have hlt : (x 0).val < 128 := (x 0).isLt
    have hsym : S128.rowMajor.symm (Fin.cast (rfl : (128 : ℕ) = 128) (x 0)) = atL (x 0) := by
      rw [Equiv.symm_apply_eq]; exact Fin.ext (Shape.rowMajor_val_one (atL (x 0))).symm
    have e := (congrArg ((listS s).view.read (Elt F) f) hsym).trans ((listS_read (F := F) s f (x 0)).trans ((congrFun hf _).trans (idxB_read i k fi (x 0))))
    refine (congrArg BitVec.toNat e).trans ?_
    have hj : (atI ⟨base i + 128 * k.val + (x 0).val, by have := base_le i; have := k.isLt; omega⟩ : S1x16384.Idx)
        = atI ((outB i k).view.emb x 0) := atI_ext e0.symm
    exact (congrArg (fun j => (fi j).toNat) hj).trans (Nat.mod_eq_of_lt (hr _)).symm
  · refine (Shape.Gathers.idx_of_ne gathers_S256000x128_S128x128 _ x 1 (by decide)).trans ?_
    exact (congrArg Fin.val e1).symm

/-- Writing what another buffer's view reads over a view's elements leaves that buffer there. -/
theorem write_read_on {s : Shape} {e : EltTy} {sp : Space} (v : View sig .scVector sp s e) (f g : v.ty.Contents (Elt F)) :
    ∀ j ∈ v.set, v.write (Elt F) f (v.read (Elt F) g) Finset.univ j = g j := by
  intro j hj
  obtain ⟨x, -, rfl⟩ := Finset.mem_map.mp hj
  rw [View.write_emb_of_mem _ _ (Finset.mem_univ x), View.read_apply]
  simp

end Cert.Proof.Pieces

end
-- ==== Proof.Setup.lean ====
/-
  The program as its launch sees it, the proof's ghost state, and the tile's resources by name: for each slot of its
  scratch and each block of rows, what the tile holds of it at rest and what it holds while a transfer is under way.
-/
module

public import proofs.«01_k».proof.Proof.Pieces

@[expose] public section

noncomputable section

namespace Cert.Proof.Setup

open Cert.KernelIdeal Cert.KernelIdeal.Gen Cert.Proof.Words Cert.Proof.Pieces
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's parameters and the ghost state -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL
/-- The rounds of the pipeline that follows the call. -/
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

local notation "𝕄" => MT nD τ sig (HIx 1) (Elt F) ℕ UU ℕ

/-! ## The tile and what it holds -/

/-- The tile at coordinates `L` of device `d`. -/
abbrev thr (d : Dev nD) (L : grid0.Coords) : Thread nD τ := V d ((L 0).castLE hcore0) ((L 1).castLE hsub0)

abbrev iLoc (d : Dev nD) : Loc nD τ sig := (SparseCore.T d).loc main_v9
abbrev tLoc (d : Dev nD) : Loc nD τ sig := (SparseCore.T d).loc main_v0
abbrev oLoc (d : Dev nD) : Loc nD τ sig := (SparseCore.T d).loc main_v10

section Tile
variable (d : Dev nD) (L : grid0.Coords) (fi : Buf (Elt F) (iLoc d)) (ft : Buf (Elt F) (tLoc d)) (f0 : Buf (Elt F) (oLoc d)) (q : PosShare TreeShare)

/-- Block `k` of the row numbers; -/
def IB (k : Fin 4) : sProp 𝕄 := (idxB L k).view.loc (thr d L) ↦[(idxB L k).view.set]{fullShare} fi
/-- block `k` of the result, as it was, -/
def OB0 (k : Fin 4) : sProp 𝕄 := (outB L k).view.loc (thr d L) ↦[(outB L k).view.set]{fullShare} f0
/-- and gathered. -/
def OB (k : Fin 4) : sProp 𝕄 := (outB L k).view.loc (thr d L) ↦[(outB L k).view.set]{fullShare} gathered ft fi
/-- The share of the table. -/
def TB : sProp 𝕄 := tLoc d ↦{q} ft
/-- A slot for row numbers, holding anything, and holding block `k`; -/
def IN (s : Fin 2) : sProp 𝕄 := iprop(∃ f, (inS s).view.loc (thr d L) ↦[(inS s).view.set]{fullShare} f)
def INk (s : Fin 2) (k : Fin 4) : sProp 𝕄 := iprop(∃ f, ⌜(inS s).view.read (Elt F) f = (idxB L k).view.read (Elt F) fi⌝
  ∗ (inS s).view.loc (thr d L) ↦[(inS s).view.set]{fullShare} f)
/-- a slot for rows, holding anything, and holding block `k` of the gathered rows. -/
def OU (s : Fin 2) : sProp 𝕄 := iprop(∃ f, (rowsS s).view.loc (thr d L) ↦[(rowsS s).view.set]{fullShare} f)
def OUk (s : Fin 2) (k : Fin 4) : sProp 𝕄 := iprop(∃ f, ⌜(rowsS s).view.read (Elt F) f = (outB L k).view.read (Elt F) (gathered ft fi)⌝
  ∗ (rowsS s).view.loc (thr d L) ↦[(rowsS s).view.set]{fullShare} f)
/-- The slots' cells at zero, and the indirect transfer's. -/
def CI (s : Fin 2) : sProp 𝕄 := semVal (thr d L, .dma (semIS s)) 0
def CO (s : Fin 2) : sProp 𝕄 := semVal (thr d L, .dma (semOS s)) 0
def CG : sProp 𝕄 := semVal (thr d L, .dma cc0_scoped4.sem) 0
/-- Block `k` on its way into slot `s`, and out of it. -/
def FI (s : Fin 2) (k : Fin 4) : sProp 𝕄 := Transfers.Flight countersEmb (thr d L) (.dma (semIS s)) (default : HIx 1) (inS s).view.dmaCredit
  iprop(INk d L fi s k ∗ IB d L fi k)
def FO (s : Fin 2) (k : Fin 4) : sProp 𝕄 := Transfers.Flight countersEmb (thr d L) (.dma (semOS s)) (default : HIx 1) (outB L k).view.dmaCredit
  iprop(OB d L fi ft k ∗ OU (F := F) d L s)
/-- What the tile owes and that its transfers may be waited for, having waited only on its own transfers since. -/
def OW (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')
/-- The indirect transfer of block `k`'s rows into slot `s`, under way. -/
def FG (s : Fin 2) (k : Fin 4) : sProp 𝕄 := Transfers.Flight countersEmb (thr d L) (.dma cc0_scoped4.sem) (default : HIx 1) (rowsS s).view.dmaCredit
  iprop(OUk d L fi ft s k ∗ TB d ft q ∗ IN (F := F) d L s)
end Tile

/-- A program of the tile, from its resources. -/
abbrev run [FloatOps F] (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

end Cert.Proof.Setup

end
-- ==== Proof.Steps.lean ====
/-
  The tile's five operations, each from the resources it takes to those it leaves: a block of row numbers starts on
  its way into a slot; it arrives; the indirect transfer fills a slot of rows from the table; the rows start on their
  way out; they have left.
-/
module

public import proofs.«01_k».proof.Proof.Setup

@[expose] public section

noncomputable section

namespace Cert.Proof.Steps

open Cert.KernelIdeal Cert.KernelIdeal.Gen Cert.Proof.Words Cert.Proof.Pieces Cert.Proof.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (fi : Buf (Elt F) (iLoc d)) (ft : Buf (Elt F) (tLoc d)) (f0 : Buf (Elt F) (oLoc d)) (q : PosShare TreeShare)
variable (O : CellTallies nD τ sig (HIx 1)) (W : Waits sig (HIx 1))

/-- A block of row numbers starts on its way into a slot. -/
theorem copyIn (s : Fin 2) (k : Fin 4) {o1 : Fin 2 → ℕ} {o2 : Fin 3 → ℕ} {o3 : Fin 1 → ℕ} {h1 h2 h3}
    (e1 : o1 = ![0, base L + 128 * k.val]) (e2 : o2 = ![s.val, 0, 0]) (e3 : o3 = ![s.val])
    {hs : (idxM o1 h1).view.WordExact} {hd : (inM o2 h2).view.WordExact} {ht} {Q : PUnit → sProp 𝕄} :
    iprop(IB d L fi k ∗ IN (F := F) d L s ∗ CI (F := F) d L s)
      ⊢ iprop((FI d L fi s k -∗ Q ⟨⟩) -∗ run d L (Prog.lift (.enqueueDma (idxM o1 h1) (.here (inM o2 h2)) (.dma (semI o3 h3)) hs hd ht)) Q) := by
  subst e1 e2 e3
  unfold IB IN CI
  iintro ⟨Hi, ⟨%f, Hn⟩, Hv⟩ HQ
  iapply (Transfers.wp_dmaLocal countersEmb 𝒱₀ (thr d L) none (src := idxB L k) (dst := inS s) (sm := .dma (semIS s))
    (default : HIx 1) (inS s).view.dmaCredit rfl ((inS s).view.dmaCredit_pos (by decide)) (Finset.Subset.refl _)) $$ [Hi Hn Hv]
  · isplitl [Hi]; · iexact Hi
    isplitl [Hn]; · iexact Hn
    iexact Hv
  iintro Hfl
  rw [wp_ret]; imodintro
  iapply HQ
  unfold FI
  iapply (Transfers.Flight_mono (EC := countersEmb) (c := thr d L) ?_) $$ Hfl
  unfold INk IB
  iintro ⟨Hn, Hi⟩
  isplitl [Hn]
  · iexists _; isplitr
    swap; · iexact Hn
    ipureintro; exact View.read_write_univ _ _
  · iexact Hi

/-- A block of row numbers has arrived. -/
theorem waitIn (s : Fin 2) (k : Fin 4)
    {o1 : Fin 2 → ℕ} {o2 : Fin 3 → ℕ} {o3 : Fin 1 → ℕ} {h1 h2 h3} (e3 : o3 = ![s.val])
    {hs : (idxM o1 h1).view.WordExact} {hd : (inM o2 h2).view.WordExact} {Q : PUnit → sProp 𝕄} :
    iprop(FI d L fi s k ∗ OW d L O W)
      ⊢ iprop((iprop(INk d L fi s k ∗ IB d L fi k ∗ CI (F := F) d L s ∗ OW d L O W) -∗ Q ⟨⟩)
        -∗ run d L (Prog.lift (.waitDma2 (semI o3 h3) (idxM o1 h1) (inM o2 h2) hs hd)) Q) := by
  subst e3
  unfold FI OW CI
  iintro ⟨Hfl, #Hmw, ⟨%W', %hW', HO⟩⟩ HQ
  iapply (Transfers.wp_waitLocalO countersEmb 𝒱₀ (thr d L) none (default : HIx 1) (rfl : (inM o2 h2).view.dmaCredit = _)) $$ [Hfl HO Hmw]
  · isplitl [Hfl]; · iexact Hfl
    isplitl [HO]; · iexact HO
    iapply (Transfers.MayWaits.elim (SemLoc.dma (semIS s))) $$ Hmw
  iintro ⟨⟨Hn, Hi⟩, Hv, HO⟩
  rw [wp_ret]; imodintro
  iapply HQ
  isplitl [Hn]; · iexact Hn
  isplitl [Hi]; · iexact Hi
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

/-- A slot as a list covers the slot. -/
theorem listS_set (s : Fin 2) : (listS s).view.set = (inS s).view.set := by
  show (((inS s).view.slice _).reshape _ _).set = _
  rw [View.set_reshape, View.set_slice, Rect.set_eq_univ_of_whole]
  · rfl
  · decide

/-- The table's view covers the table. -/
theorem tabM_set : (tabM).view.set = Finset.univ := by
  rw [View.set_slice_whole, Rect.set_eq_univ_of_whole]; decide

theorem run_bind_pure {α : Type} (p : Prog (TpuEff nD τ sig (Elt F) Λ₀ (thr d L).2) α) (Q : α → sProp 𝕄) :
    run d L (p >>= pure) Q ⊢ run d L p Q := Entails.of_eq (by rw [bind_pure])

/-- The credit of a slot's rows, one by one, is the slot's. -/
theorem rows_credit : ∀ s : Fin 2, ∑ j, ((rowsS s).slice (S128x128.rowRect (gathers_S256000x128_S128x128).axis' j)
    (S128x128.stride_rowRect (gathers_S256000x128_S128x128).axis' j)).view.dmaCredit = (rowsS s).view.dmaCredit := by decide

/-- The rows a slot's numbers name start out of the table into a slot of rows. -/
theorem gatherStart (hr : InRange fi) (s : Fin 2) (k : Fin 4)
    {o1 o2 : Fin 3 → ℕ} {h1 h2} (e1 : o1 = ![s.val, 0, 0]) (e2 : o2 = ![s.val, 0, 0])
    {hs : (tabM).view.WordExact} {he hsp} {Q : PUnit → sProp 𝕄} :
    iprop(INk d L fi s k ∗ OU (F := F) d L s ∗ CG (F := F) d L ∗ TB d ft q)
      ⊢ iprop((FG d L fi ft q s k -∗ Q ⟨⟩)
        -∗ run d L (SparseCore.enqueueIndirectGather rfl tabM (rowsM o1 h1) gathers_S256000x128_S128x128 (listM o2 h2) rfl cc0_scoped4.sem hs he hsp) Q) := by
  subst e1 e2
  unfold INk OU CG TB
  iintro ⟨⟨%f, %hf, Hn⟩, ⟨%g, Hg⟩, Hv, Ht⟩ HQ
  iapply (run_bind_pure d L)
  iapply (SparseCore.wp_indirectGatherLocal countersEmb 𝒱₀ (thr d L) none (src := tabM) (dst := rowsS s) (offs := listS s) (hg := gathers_S256000x128_S128x128)
      (default : HIx 1) (rowsS s).view.dmaCredit (rows_credit s) (by decide) (list_inb hr hf)) $$ [Ht Hg Hn Hv]
  · isplitl [Ht]; · rw [tabM_set]; iexact Ht
    isplitl [Hg]; · iexact Hg
    isplitl [Hn]
    · rw [listS_set]; iexact Hn
    iexact Hv
  iintro Hfl
  rw [wp_pure]; imodintro
  iapply HQ
  unfold FG
  iapply (Transfers.Flight_mono (EC := countersEmb) (c := thr d L) ?_) $$ Hfl
  unfold OUk TB IN
  rw [tabM_set, listS_set]
  iintro ⟨Hg, Ht, Hn⟩
  isplitl [Hg]
  · iexists _; isplitr
    swap; · iexact Hg
    ipureintro
    exact (View.read_write_univ _ _).trans (payload_eq hr hf _)
  isplitl [Ht]; · iexact Ht
  iexists _; iexact Hn

/-- They are there. -/
theorem gatherWait (s : Fin 2) (k : Fin 4) {o3 : Fin 3 → ℕ} {h3}
    {hs' : (tabM).view.WordExact} {hd' : (rowsM o3 h3).view.WordExact} {Q : PUnit → sProp 𝕄} :
    iprop(FG d L fi ft q s k ∗ OW d L O W)
      ⊢ iprop((iprop(OUk d L fi ft s k ∗ TB d ft q ∗ IN (F := F) d L s ∗ CG (F := F) d L ∗ OW d L O W) -∗ Q ⟨⟩)
        -∗ run d L (SparseCore.waitIndirectGather cc0_scoped4.sem tabM (rowsM o3 h3) hs' hd') Q) := by
  unfold FG OW CG
  iintro ⟨Hfl, #Hmw, ⟨%W', %hW', HO⟩⟩ HQ
  iapply (Transfers.wp_waitLocalO countersEmb 𝒱₀ (thr d L) none (default : HIx 1) (rfl : (rowsM o3 h3).view.dmaCredit = _)) $$ [Hfl HO Hmw]
  · isplitl [Hfl]; · iexact Hfl
    isplitl [HO]; · iexact HO
    iapply (Transfers.MayWaits.elim (SemLoc.dma cc0_scoped4.sem)) $$ Hmw
  iintro ⟨⟨Hg, Ht, Hn⟩, Hv, HO⟩
  rw [wp_ret]; imodintro
  iapply HQ
  isplitl [Hg]; · iexact Hg
  isplitl [Ht]; · iexact Ht
  isplitl [Hn]; · iexact Hn
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

/-- A slot's rows start on their way out. -/
theorem copyOut (s : Fin 2) (k : Fin 4) {o1 : Fin 3 → ℕ} {o2 : Fin 2 → ℕ} {o3 : Fin 1 → ℕ} {h1 h2 h3}
    (e1 : o1 = ![s.val, 0, 0]) (e2 : o2 = ![base L + 128 * k.val, 0]) (e3 : o3 = ![s.val])
    {hs : (rowsM o1 h1).view.WordExact} {hd : (outM o2 h2).view.WordExact} {ht} {Q : PUnit → sProp 𝕄} :
    iprop(OUk d L fi ft s k ∗ OB0 d L f0 k ∗ CO (F := F) d L s)
      ⊢ iprop((FO d L fi ft s k -∗ Q ⟨⟩) -∗ run d L (Prog.lift (.enqueueDma (rowsM o1 h1) (.here (outM o2 h2)) (.dma (semO o3 h3)) hs hd ht)) Q) := by
  subst e1 e2 e3
  unfold OUk OB0 CO
  iintro ⟨⟨%f, %hf, Hn⟩, Ho, Hv⟩ HQ
  iapply (Transfers.wp_dmaLocal countersEmb 𝒱₀ (thr d L) none (src := rowsS s) (dst := outB L k) (sm := .dma (semOS s))
    (default : HIx 1) (outB L k).view.dmaCredit rfl ((outB L k).view.dmaCredit_pos (by decide)) (Finset.Subset.refl _)) $$ [Hn Ho Hv]
  · isplitl [Hn]; · iexact Hn
    isplitl [Ho]; · iexact Ho
    iexact Hv
  iintro Hfl
  rw [wp_ret]; imodintro
  iapply HQ
  unfold FO
  iapply (Transfers.Flight_mono (EC := countersEmb) (c := thr d L) ?_) $$ Hfl
  unfold OB OU
  iintro ⟨Ho, Hn⟩
  isplitl [Ho]
  · iapply (Entails.of_eq (pointsTo_congr (q := fullShare) (fun j hj => by
      exact (congrArg (fun w => (outB L k).view.write (Elt F) f0 w Finset.univ j) hf).trans (write_read_on (outB L k).view f0 (gathered ft fi) j hj)))) $$ Ho
  · iexists _; iexact Hn

/-- A slot's rows have left. -/
theorem waitOut (s : Fin 2) (k : Fin 4)
    {o1 : Fin 3 → ℕ} {o2 : Fin 2 → ℕ} {o3 : Fin 1 → ℕ} {h1 h2 h3} (e3 : o3 = ![s.val])
    {hs : (rowsM o1 h1).view.WordExact} {hd : (outM o2 h2).view.WordExact} {Q : PUnit → sProp 𝕄} :
    iprop(FO d L fi ft s k ∗ OW d L O W)
      ⊢ iprop((iprop(OB d L fi ft k ∗ OU (F := F) d L s ∗ CO (F := F) d L s ∗ OW d L O W) -∗ Q ⟨⟩)
        -∗ run d L (Prog.lift (.waitDma2 (semO o3 h3) (rowsM o1 h1) (outM o2 h2) hs hd)) Q) := by
  subst e3
  unfold FO OW CO
  iintro ⟨Hfl, #Hmw, ⟨%W', %hW', HO⟩⟩ HQ
  iapply (Transfers.wp_waitLocalO countersEmb 𝒱₀ (thr d L) none (default : HIx 1) (rfl : (outM o2 h2).view.dmaCredit = _)) $$ [Hfl HO Hmw]
  · isplitl [Hfl]; · iexact Hfl
    isplitl [HO]; · iexact HO
    iapply (Transfers.MayWaits.elim (SemLoc.dma (semOS s))) $$ Hmw
  iintro ⟨⟨Ho, Hn⟩, Hv, HO⟩
  rw [wp_ret]; imodintro
  iapply HQ
  isplitl [Ho]; · iexact Ho
  isplitl [Hn]; · iexact Hn
  isplitl [Hv]; · iexact Hv
  isplitr; · iexact Hmw
  iexists _; isplitr
  swap; · iexact HO
  ipureintro; intro p hp
  rcases Finset.mem_insert.mp hp with hp | hp
  · exact .inr (hp ▸ rfl)
  · exact hW' p hp

end Cert.Proof.Steps

end
-- ==== Proof.Trip.lean ====
/-
  One trip of the tile's loop: what the tile holds before it, and that it holds the same, one block further, after it.
-/
module

public import proofs.«01_k».proof.Proof.Steps

@[expose] public section

noncomputable section

namespace Cert.Proof.Trip

open Cert.KernelIdeal Cert.KernelIdeal.Gen Cert.Proof.Words Cert.Proof.Pieces Cert.Proof.Setup Cert.Proof.Steps
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (fi : Buf (Elt F) (iLoc d)) (ft : Buf (Elt F) (tLoc d)) (f0 : Buf (Elt F) (oLoc d)) (q : PosShare TreeShare)
variable (O : CellTallies nD τ sig (HIx 1)) (W : Waits sig (HIx 1))

/-- The other slot, and a trip's own. -/
def sl (t : ℕ) : Fin 2 := ⟨t % 2, Nat.mod_lt _ (by decide)⟩

/-- What the next block's arrival takes, and what it leaves, if there is a next block. -/
def nextIn (t : ℕ) : sProp 𝕄 := if h : t < 3 then iprop(IB d L fi ⟨t + 1, by omega⟩ ∗ IN (F := F) d L (sl (t + 1)) ∗ CI (F := F) d L (sl (t + 1))) else iprop(emp)
def nextFly (t : ℕ) : sProp 𝕄 := if h : t < 3 then FI d L fi (sl (t + 1)) ⟨t + 1, by omega⟩ else iprop(emp)
/-- What the last block's departure leaves to wait for, and what it gives back, if there was one. -/
def prevFly (t : ℕ) (ht : t < 4) : sProp 𝕄 := if h : 0 < t then FO d L fi ft (sl (t - 1)) ⟨t - 1, by omega⟩ else iprop(emp)
def prevOut (t : ℕ) (ht : t < 4) : sProp 𝕄 :=
  if h : 0 < t then iprop(OB d L fi ft ⟨t - 1, by omega⟩ ∗ OU (F := F) d L (sl (t - 1)) ∗ CO (F := F) d L (sl (t - 1))) else iprop(emp)

/-- A check that holds is passed. -/
theorem run_assume {α : Type} {P : Prop} {dP : Decidable P} (h : P) (k : PLift P → Prog (TpuEff nD τ sig (Elt F) Λ₀ (thr d L).2) α) (Q : α → sProp 𝕄) :
    run d L (k ⟨h⟩) Q ⊢ run d L (Prog.lift (.assume P dP) >>= k) Q := by
  unfold run
  rw [show Prog.lift (.assume P dP) >>= k = .op (.assume P dP) k from rfl]
  exact wp_assume 𝒱₀ (thr d L) none Set.univ h

/-- A program's run and then another's. -/
theorem run_seq {α β : Type} (p : Prog (TpuEff nD τ sig (Elt F) Λ₀ (thr d L).2) α) (k : α → Prog (TpuEff nD τ sig (Elt F) Λ₀ (thr d L).2) β) (Q : β → sProp 𝕄) :
    run d L p (fun x => run d L (k x) Q) ⊢ run d L (p >>= k) Q := Entails.of_eq (wp_bind ..).symm

/-- A program that ends. -/
theorem run_pure {α : Type} (a : α) (Q : α → sProp 𝕄) : Q a ⊢ run d L (pure a) Q := by
  unfold run
  rw [Prog.pure_eq_ret, wp_ret]
  exact fupd_intro

/-- What the first part of trip `t` hands on. -/
def res1 (t : Fin 4) : Σ' (_ : k0_chk3 (wd t.val)) (_ : k0_chk2 (wd t.val)) (_ : k0_chk1 L (trip t) (wd (t.val + 1)) (wd t.val) (wd t.val) (wd (t.val - 1)) (wd t.val))
    (_ : BitVec 32) (_ : BitVec 1) (_ : BitVec 1) (_ : BitVec 32) (_ : BitVec 32) (_ : BitVec 32) (_ : BitVec 32), BitVec 1 :=
  let a := Scf.iv 0#32 1#32 (trip t).val
  let here := Scalar.addi (wd t.val) (tileWord L)
  let down := Scalar.select (1#1) (Scalar.subi (wd t.val) 1#32) (wd t.val)
  let prev := Scalar.addi (Scalar.select (Scalar.cmpi .eq down 4294967295#32) (3#32) down) (tileWord L)
  let up := Scalar.select (1#1) (Scalar.addi (wd t.val) 1#32) (wd t.val)
  let next := Scalar.addi (Scalar.select (Scalar.cmpi .eq up 4#32) (0#32) up) (tileWord L)
  let more := Scalar.andi (Scalar.andi (Scalar.cmpi .ne here next) (Scalar.xori (Scalar.cmpi .sge a 3#32) 1#1)) 1#1
  ⟨chk3_at t, chk2_at t, chk1_at L t, a, Scalar.cmpi .eq a 0#32, Scalar.cmpi .eq a 3#32, here, prev, next,
    Scalar.select more (Scalar.addi (wd (t.val + 1)) 1#32) (wd (t.val + 1)), Scalar.cmpi .ne here prev⟩

/-- The program's first part at trip `t`. -/
abbrev prog1 (t : Fin 4) := k0_part1 (F := F) L (Memref.whole main_v0_scv) (Memref.isWhole_whole _) (Memref.whole main_v9_scv) (Memref.isWhole_whole _)
  (Memref.whole main_v10_scv) (Memref.isWhole_whole _) (Memref.whole cc0_scoped0) (Memref.isWhole_whole _) cc0_scoped1
  (Memref.whole cc0_scoped2) (Memref.isWhole_whole _) cc0_scoped3 cc0_scoped4 (tileWord L) 0#32 1#32 (trip t)
  (wd (t.val + 1)) (wd t.val) (wd t.val) (wd (t.val - 1)) (wd t.val)

/-- The first part starts the next block's numbers on their way, if there is a next block. -/
theorem part1 (t : Fin 4) (Q : _ → sProp 𝕄) :
    nextIn d L fi t.val ⊢ iprop((nextFly d L fi t.val -∗ Q (res1 L t)) -∗ run d L (prog1 (F := F) L t) Q) := by
  unfold prog1
  rw [k0_part1_eq_skeleton]
  unfold k0_part1_skel res1
  iintro H HQ
  iapply (run_assume d L (chk3_at t))
  iapply (run_assume d L (chk2_at t))
  iapply (run_assume d L (chk1_at L t))
  by_cases ht : t.val < 3
  · simp only [dif_pos ((cond1_at L t).2 ht), nextIn, nextFly, dif_pos ht]
    iapply (run_seq d L)
    iapply (copyIn d L fi (sl (t.val + 1)) ⟨t.val + 1, Nat.succ_lt_succ ht⟩ (off5_at L ⟨t.val, ht⟩) (off4_at ⟨t.val + 1, by omega⟩) (off6_at ⟨t.val + 1, by omega⟩)) $$ H
    iintro H
    iapply (run_pure d L)
    ihave H := HQ $$ H
    iexact H
  · simp only [dif_neg (fun h => ht ((cond1_at L t).1 h)), nextIn, nextFly, dif_neg ht]
    iapply (run_pure d L)
    ihave H := HQ $$ H
    iexact H

/-- What a trip yields, word by word. -/
def yield (t : Fin 4) : BitVec 32 × BitVec 32 × BitVec 32 × BitVec 32 × BitVec 32 :=
  let a := Scf.iv 0#32 1#32 (trip t).val
  let here := Scalar.addi (wd t.val) (tileWord L)
  let down := Scalar.select (1#1) (Scalar.subi (wd t.val) 1#32) (wd t.val)
  let prev := Scalar.addi (Scalar.select (Scalar.cmpi .eq down 4294967295#32) (3#32) down) (tileWord L)
  let up := Scalar.select (1#1) (Scalar.addi (wd t.val) 1#32) (wd t.val)
  let next := Scalar.addi (Scalar.select (Scalar.cmpi .eq up 4#32) (0#32) up) (tileWord L)
  let more := Scalar.andi (Scalar.andi (Scalar.cmpi .ne here next) (Scalar.xori (Scalar.cmpi .sge a 3#32) 1#1)) 1#1
  let last := Scalar.ori (Scalar.cmpi .ne here next) (Scalar.cmpi .eq a 3#32)
  let seen := Scalar.andi (Scalar.andi (Scalar.cmpi .ne here prev) (Scalar.xori (Scalar.cmpi .eq a 0#32) 1#1)) 1#1
  let step := Scalar.select 1#1 (Scalar.addi (wd t.val) 1#32) (wd t.val)
  (Scalar.select more (Scalar.addi (wd (t.val + 1)) 1#32) (wd (t.val + 1)), Scalar.select last (Scalar.addi (wd t.val) 1#32) (wd t.val),
    Scalar.select (Scalar.andi last 1#1) (Scalar.addi (wd t.val) 1#32) (wd t.val),
    Scalar.select seen (Scalar.addi (wd (t.val - 1)) 1#32) (wd (t.val - 1)),
    Scalar.select (Scalar.cmpi .eq step 4#32) 0#32 step)

theorem yield_eq : ∀ (L : grid0.Coords) (t : Fin 4), words (t.val + 1) = yield L t := by decide +kernel

theorem words_eq (t : Fin 4) : words t.val = (wd (t.val + 1), wd t.val, wd t.val, wd (t.val - 1), wd t.val) := by
  revert t; decide +kernel

/-- A trip's program. -/
abbrev tripProg (t : Fin 4) := k0_t1_body (F := F) L (Memref.whole main_v0_scv) (Memref.isWhole_whole _) (Memref.whole main_v9_scv) (Memref.isWhole_whole _)
  (Memref.whole main_v10_scv) (Memref.isWhole_whole _) (Memref.whole cc0_scoped0) (Memref.isWhole_whole _) cc0_scoped1
  (Memref.whole cc0_scoped2) (Memref.isWhole_whole _) cc0_scoped3 cc0_scoped4 (tileWord L) (trip t) (words t.val)

/-- One trip: block `t`'s numbers, on their way when it starts, bring block `t`'s rows, which are on their way out when it ends. -/
theorem trip_run (hr : InRange fi) (t : Fin 4) (Q : _ → sProp 𝕄) :
    iprop(FI d L fi (sl t.val) t ∗ nextIn d L fi t.val ∗ OU (F := F) d L (sl t.val) ∗ CO (F := F) d L (sl t.val) ∗ OB0 d L f0 t
        ∗ prevFly d L fi ft t.val t.isLt ∗ CG (F := F) d L ∗ TB d ft q ∗ OW d L O W)
      ⊢ iprop((iprop(nextFly d L fi t.val ∗ IN (F := F) d L (sl t.val) ∗ CI (F := F) d L (sl t.val) ∗ IB d L fi t ∗ FO d L fi ft (sl t.val) t
          ∗ prevOut d L fi ft t.val t.isLt ∗ CG (F := F) d L ∗ TB d ft q ∗ OW d L O W) -∗ Q (words (t.val + 1)))
        -∗ run d L (tripProg (F := F) L t) Q) := by
  unfold tripProg
  rw [words_eq, yield_eq L t]
  unfold k0_t1_body
  rw [k0_part2_eq_skeleton]
  unfold k0_part2_skel
  unfold yield
  simp only
  iintro ⟨HFI, HN, HOU, HCO, HB, HP, HG, HT, HO⟩ HQ
  iapply (run_seq d L)
  iapply (part1 d L fi t) $$ HN
  iintro HN
  unfold res1
  simp only [dif_pos (cond2_at L t), dif_pos (cond5_at L t), ite_self, bind_assoc, pure_bind]
  iapply (run_seq d L)
  iapply (waitIn d L fi O W (sl t.val) t (off9_at t)) $$ [HFI HO]
  · isplitl [HFI]
    · iexact HFI
    · iexact HO
  iintro ⟨HI, HIB, HCI, HO⟩
  iapply (run_seq d L)
  iapply (gatherStart d L fi ft q hr (sl t.val) t (off10_at t) (off11_at t)) $$ [HI HOU HG HT]
  · isplitl [HI]; · iexact HI
    isplitl [HOU]; · iexact HOU
    isplitl [HG]; · iexact HG
    iexact HT
  iintro HF
  iapply (run_seq d L)
  iapply (gatherWait d L fi ft q O W (sl t.val) t) $$ [HF HO]
  · isplitl [HF]
    · iexact HF
    · iexact HO
  iintro ⟨HOU, HT, HIN, HG, HO⟩
  iapply (run_seq d L)
  iapply (copyOut d L fi ft f0 (sl t.val) t (off12_at t) (off13_at L t) (off14_at t)) $$ [HOU HB HCO]
  · isplitl [HOU]; · iexact HOU
    isplitl [HB]; · iexact HB
    iexact HCO
  iintro HF
  by_cases ht : 0 < t.val
  · simp only [dif_pos ((cond7_at L t).2 ht), prevFly, prevOut, dif_pos ht]
    iapply (run_seq d L)
    iapply (waitOut d L fi ft O W (sl (t.val - 1)) ⟨t.val - 1, Nat.lt_of_le_of_lt (Nat.sub_le _ _) t.isLt⟩ (off17_at ⟨t.val - 1, Nat.lt_of_le_of_lt (Nat.sub_le _ _) t.isLt⟩)) $$ [HP HO]
    · isplitl [HP]
      · iexact HP
      · iexact HO
    iintro ⟨HOB, HOU, HCO, HO⟩
    iapply (run_pure d L)
    iapply HQ
    isplitl [HN]; · iexact HN
    isplitl [HIN]; · iexact HIN
    isplitl [HCI]; · iexact HCI
    isplitl [HIB]; · iexact HIB
    isplitl [HF]; · iexact HF
    isplitl [HOB HOU HCO]
    · isplitl [HOB]; · iexact HOB
      isplitl [HOU]; · iexact HOU
      iexact HCO
    isplitl [HG]; · iexact HG
    isplitl [HT]; · iexact HT
    iexact HO
  · simp only [dif_neg (fun h => ht ((cond7_at L t).1 h)), prevFly, prevOut, dif_neg ht]
    iapply (run_pure d L)
    iapply HQ
    isplitl [HN]; · iexact HN
    isplitl [HIN]; · iexact HIN
    isplitl [HCI]; · iexact HCI
    isplitl [HIB]; · iexact HIB
    isplitl [HF]; · iexact HF
    isplitl [HP]; · iexact HP
    isplitl [HG]; · iexact HG
    isplitl [HT]; · iexact HT
    iexact HO

end Cert.Proof.Trip
end
-- ==== Proof.Body.lean ====
/-
  The tile's whole loop: the trips in turn, with the waits that remain after the last one.
-/
module

public import proofs.«01_k».proof.Proof.Trip

@[expose] public section

noncomputable section

namespace Cert.Proof.Body

open Cert.KernelIdeal Cert.KernelIdeal.Gen Cert.Proof.Words Cert.Proof.Pieces Cert.Proof.Setup Cert.Proof.Steps Cert.Proof.Trip
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (fi : Buf (Elt F) (iLoc d)) (ft : Buf (Elt F) (tLoc d)) (f0 : Buf (Elt F) (oLoc d)) (q : PosShare TreeShare)
variable (O : CellTallies nD τ sig (HIx 1)) (W : Waits sig (HIx 1))

/-- What a trip takes, -/
def Pre (t : Fin 4) : sProp 𝕄 :=
  iprop(FI d L fi (sl t.val) t ∗ nextIn d L fi t.val ∗ OU (F := F) d L (sl t.val) ∗ CO (F := F) d L (sl t.val) ∗ OB0 d L f0 t
        ∗ prevFly d L fi ft t.val t.isLt ∗ CG (F := F) d L ∗ TB d ft q ∗ OW d L O W)
/-- what it leaves, -/
def Post (t : Fin 4) : sProp 𝕄 :=
  iprop(nextFly d L fi t.val ∗ IN (F := F) d L (sl t.val) ∗ CI (F := F) d L (sl t.val) ∗ IB d L fi t ∗ FO d L fi ft (sl t.val) t
          ∗ prevOut d L fi ft t.val t.isLt ∗ CG (F := F) d L ∗ TB d ft q ∗ OW d L O W)
/-- and what it does not touch. -/
def Rest : ℕ → sProp 𝕄
  | 0 => iprop(IB d L fi 2 ∗ IB d L fi 3 ∗ OU (F := F) d L 1 ∗ CO (F := F) d L 1 ∗ OB0 d L f0 1 ∗ OB0 d L f0 2 ∗ OB0 d L f0 3)
  | 1 => iprop(IB d L fi 0 ∗ IB d L fi 3 ∗ OB0 d L f0 2 ∗ OB0 d L f0 3)
  | 2 => iprop(IB d L fi 0 ∗ IB d L fi 1 ∗ OB d L fi ft 0 ∗ OB0 d L f0 3)
  | _ => iprop(IB d L fi 0 ∗ IB d L fi 1 ∗ IB d L fi 2 ∗ OB d L fi ft 0 ∗ OB d L fi ft 1 ∗ IN (F := F) d L 0 ∗ CI (F := F) d L 0)

/-- The slots and blocks by number. -/
theorem sl0 : sl 0 = 0 := rfl
theorem sl1 : sl 1 = 1 := rfl
theorem sl2 : sl 2 = 0 := rfl
theorem sl3 : sl 3 = 1 := rfl
theorem k0 {h} : (⟨0, h⟩ : Fin 4) = 0 := rfl
theorem k1 {h} : (⟨1, h⟩ : Fin 4) = 1 := rfl
theorem k2 {h} : (⟨2, h⟩ : Fin 4) = 2 := rfl
theorem k3 {h} : (⟨3, h⟩ : Fin 4) = 3 := rfl
theorem v0 : (0 : Fin 4).val = 0 := rfl
theorem v1 : (1 : Fin 4).val = 1 := rfl
theorem v2 : (2 : Fin 4).val = 2 := rfl
theorem v3 : (3 : Fin 4).val = 3 := rfl

/-- Between trips 0 and 1: what the one leaves is what the other takes. -/
theorem next0 : iprop(Post d L fi ft q O W 0 ∗ Rest d L fi ft f0 0) ⊢ iprop(Pre d L fi ft f0 q O W 1 ∗ Rest d L fi ft f0 1) := by
  unfold Post Pre Rest
  simp only [nextIn, nextFly, prevFly, prevOut, v0, v1, v2, v3, Nat.reduceAdd, Nat.reduceSub, Nat.reduceLT, dite_true, dite_false, sl0, sl1, sl2, sl3, k0, k1, k2, k3]
  iintro ⟨⟨H1, H2, H3, H4, H5, H6, H7, H8, H9⟩, H10, H11, H12, H13, H14, H15, H16⟩
  iframe

/-- Between trips 1 and 2: what the one leaves is what the other takes. -/
theorem next1 : iprop(Post d L fi ft q O W 1 ∗ Rest d L fi ft f0 1) ⊢ iprop(Pre d L fi ft f0 q O W 2 ∗ Rest d L fi ft f0 2) := by
  unfold Post Pre Rest
  simp only [nextIn, nextFly, prevFly, prevOut, v0, v1, v2, v3, Nat.reduceAdd, Nat.reduceSub, Nat.reduceLT, dite_true, dite_false, sl0, sl1, sl2, sl3, k0, k1, k2, k3]
  iintro ⟨⟨H1, H2, H3, H4, H5, ⟨Ha, Hb, Hc⟩, H7, H8, H9⟩, H10, H11, H12, H13⟩
  iframe

/-- Between trips 2 and 3: what the one leaves is what the other takes. -/
theorem next2 : iprop(Post d L fi ft q O W 2 ∗ Rest d L fi ft f0 2) ⊢ iprop(Pre d L fi ft f0 q O W 3 ∗ Rest d L fi ft f0 3) := by
  unfold Post Pre Rest
  simp only [nextIn, nextFly, prevFly, prevOut, v0, v1, v2, v3, Nat.reduceAdd, Nat.reduceSub, Nat.reduceLT, dite_true, dite_false, sl0, sl1, sl2, sl3, k0, k1, k2, k3]
  iintro ⟨⟨H1, H2, H3, H4, H5, ⟨Ha, Hb, Hc⟩, H7, H8, H9⟩, H10, H11, H12, H13⟩
  iframe

/-- Between the trips. -/
def St (n : ℕ) : sProp 𝕄 := if h : n < 4 then iprop(Pre d L fi ft f0 q O W ⟨n, h⟩ ∗ Rest d L fi ft f0 n) else iprop(Post d L fi ft q O W 3 ∗ Rest d L fi ft f0 3)

theorem St_next (t : Fin 4) : iprop(Post d L fi ft q O W t ∗ Rest d L fi ft f0 t.val) ⊢ St d L fi ft f0 q O W (t.val + 1) :=
  match t with
  | 0 => next0 d L fi ft f0 q O W
  | 1 => next1 d L fi ft f0 q O W
  | 2 => next2 d L fi ft f0 q O W
  | 3 => Entails.of_eq rfl

theorem St_at (t : Fin 4) : St d L fi ft f0 q O W t.val = iprop(Pre d L fi ft f0 q O W t ∗ Rest d L fi ft f0 t.val) := dif_pos t.isLt
theorem St_end : St d L fi ft f0 q O W 4 = iprop(Post d L fi ft q O W 3 ∗ Rest d L fi ft f0 3) := dif_neg (by decide)

theorem trip_step (hr : InRange fi) (t : Fin 4) :
    iprop(Pre d L fi ft f0 q O W t ∗ Rest d L fi ft f0 t.val)
      ⊢ run d L (tripProg (F := F) L t) fun acc => iprop(⌜acc = words (t.val + 1)⌝ ∗ St d L fi ft f0 q O W (t.val + 1)) := by
  iintro ⟨HP, HR⟩
  unfold Pre
  iapply (trip_run d L fi ft f0 q O W hr t) $$ HP
  iintro HQ
  isplitr
  · ipureintro; rfl
  · iapply (St_next d L fi ft f0 q O W t)
    unfold Post
    isplitl [HQ]
    · iexact HQ
    · iexact HR

/-- The four trips. -/
theorem loop_run (hr : InRange fi) (Q : _ → sProp 𝕄) :
    iprop(Pre d L fi ft f0 q O W 0 ∗ Rest d L fi ft f0 0)
      ⊢ iprop((iprop(Post d L fi ft q O W 3 ∗ Rest d L fi ft f0 3) -∗ Q (words 4))
        -∗ run d L (Scf.Loop.for k0_t1_loop k0_t1_ok (Scalar.addi 0#32 1#32, 0#32, 0#32, 0#32, 0#32)
          (k0_t1_body (F := F) L (Memref.whole main_v0_scv) (Memref.isWhole_whole _) (Memref.whole main_v9_scv) (Memref.isWhole_whole _)
            (Memref.whole main_v10_scv) (Memref.isWhole_whole _) (Memref.whole cc0_scoped0) (Memref.isWhole_whole _) cc0_scoped1
            (Memref.whole cc0_scoped2) (Memref.isWhole_whole _) cc0_scoped3 cc0_scoped4 (tileWord L))) Q) := by
  iintro H HQ
  iapply (Scf.wp_for frame (wpE (defs₀ (F := F)) 𝒱₀ (thr d L) none) Set.univ _ _ _ k0_t1_ok _ _
    (fun n acc => iprop(⌜acc = words n⌝ ∗ St d L fi ft f0 q O W n)) (by
      intro k acc
      iintro ⟨%h, H⟩
      subst h
      obtain ⟨t, rfl⟩ : ∃ t, k = trip t := ⟨⟨k.val, k.isLt⟩, rfl⟩
      rw [show (trip t).val = t.val from rfl]
      iapply (trip_step d L fi ft f0 q O W hr t)
      iapply (Entails.of_eq (St_at d L fi ft f0 q O W t))
      iexact H))
  isplitl [H]
  · isplitr
    · ipureintro; rfl
    · iapply (Entails.of_eq (St_at d L fi ft f0 q O W 0).symm)
      iexact H
  · iintro %acc ⟨%h, H⟩
    obtain rfl : acc = words 4 := h
    iapply HQ
    iapply (Entails.of_eq (St_end d L fi ft f0 q O W))
    iexact H

/-- The second part: the trips, and what it hands on. -/
theorem part4 (hr : InRange fi) (Q : _ → sProp 𝕄) :
    iprop(Pre d L fi ft f0 q O W 0 ∗ Rest d L fi ft f0 0)
      ⊢ iprop((iprop(Post d L fi ft q O W 3 ∗ Rest d L fi ft f0 3) -∗ Q ⟨wd 3, wd 0, chk5_at L, chk4_at⟩)
        -∗ run d L (k0_part4 (F := F) L (Memref.whole main_v0_scv) (Memref.isWhole_whole _) (Memref.whole main_v9_scv) (Memref.isWhole_whole _)
            (Memref.whole main_v10_scv) (Memref.isWhole_whole _) (Memref.whole cc0_scoped0) (Memref.isWhole_whole _) cc0_scoped1
            (Memref.whole cc0_scoped2) (Memref.isWhole_whole _) cc0_scoped3 cc0_scoped4 (tileWord L)) Q) := by
  rw [k0_part4_eq_skeleton]
  unfold k0_part4_skel
  iintro H HQ
  iapply (run_seq d L)
  iapply (loop_run d L fi ft f0 q O W hr) $$ H
  iintro H
  iapply (run_assume d L (chk5_at L))
  iapply (run_assume d L chk4_at)
  iapply (run_pure d L)
  iapply HQ $$ H

/-- The tile's run: its four blocks of row numbers, its scratch, its cells and its share of the table go in, and come
    back with its four blocks of rows gathered. -/
theorem kernel_run (hr : InRange fi) (Q : _ → sProp 𝕄) :
    iprop((IB d L fi 0 ∗ IB d L fi 1 ∗ IB d L fi 2 ∗ IB d L fi 3) ∗ (OB0 d L f0 0 ∗ OB0 d L f0 1 ∗ OB0 d L f0 2 ∗ OB0 d L f0 3)
        ∗ (IN (F := F) d L 0 ∗ IN (F := F) d L 1) ∗ (OU (F := F) d L 0 ∗ OU (F := F) d L 1) ∗ (CI (F := F) d L 0 ∗ CI (F := F) d L 1)
        ∗ (CO (F := F) d L 0 ∗ CO (F := F) d L 1) ∗ CG (F := F) d L ∗ TB d ft q ∗ OW d L O W)
      ⊢ iprop((iprop((IB d L fi 0 ∗ IB d L fi 1 ∗ IB d L fi 2 ∗ IB d L fi 3) ∗ (OB d L fi ft 0 ∗ OB d L fi ft 1 ∗ OB d L fi ft 2 ∗ OB d L fi ft 3)
        ∗ (IN (F := F) d L 0 ∗ IN (F := F) d L 1) ∗ (OU (F := F) d L 0 ∗ OU (F := F) d L 1) ∗ (CI (F := F) d L 0 ∗ CI (F := F) d L 1)
        ∗ (CO (F := F) d L 0 ∗ CO (F := F) d L 1) ∗ CG (F := F) d L ∗ TB d ft q ∗ OW d L O W) -∗ Q ⟨⟩)
        -∗ run d L (cc0_gather_kernel (F := F) L (Memref.whole main_v0_scv) (Memref.isWhole_whole _) (Memref.whole main_v9_scv) (Memref.isWhole_whole _)
            (Memref.whole main_v10_scv) (Memref.isWhole_whole _) (Memref.whole cc0_scoped0) (Memref.isWhole_whole _) cc0_scoped1
            (Memref.whole cc0_scoped2) (Memref.isWhole_whole _) cc0_scoped3 cc0_scoped4) Q) := by
  rw [cc0_gather_kernel_eq_skeleton]
  unfold cc0_gather_kernel_skel
  rw [k0_part3_eq_skeleton]
  unfold k0_part3_skel
  iintro ⟨⟨I0, I1, I2, I3⟩, ⟨O0, O1, O2, O3⟩, ⟨N0, N1⟩, ⟨U0, U1⟩, ⟨A0, A1⟩, ⟨B0, B1⟩, G, T, HO⟩ HQ
  simp only [bind_assoc, pure_bind]
  iapply (run_seq d L)
  iapply (copyIn d L fi 0 0 (off2_at L) (by decide) (by decide)) $$ [I0 N0 A0]
  · iframe
  iintro Hf
  iapply (run_seq d L)
  iapply (part4 d L fi ft f0 q O W hr) $$ [I1 I2 I3 O0 O1 O2 O3 N1 U0 U1 A1 B0 B1 G T HO Hf]
  · unfold Pre Rest
    simp only [nextIn, prevFly, v0, Nat.reduceAdd, Nat.reduceLT, dite_true, dite_false, sl0, sl1, k1]
    iframe
  unfold Post Rest
  simp only [nextFly, prevOut, v3, Nat.reduceAdd, Nat.reduceSub, Nat.reduceLT, dite_true, dite_false, sl2, sl3, k2, k3]
  iintro ⟨⟨-, N1, A1, I3, Hf, ⟨P2, U0, B0⟩, G, T, HO⟩, I0, I1, I2, P0, P1, N0, A0⟩
  iapply (waitOut d L fi ft O W 1 3 off20_at) $$ [Hf HO]
  · iframe
  iintro ⟨P3, U1, B1, HO⟩
  iapply HQ
  iframe

end Cert.Proof.Body
end
-- ==== Proof.Tile.lean ====
/-
  One tile's whole task, from what the launch hands it: its own cells and buffers taken apart into the slots and cells
  that the kernel's run wants, the run, and everything put back together.
-/
module

public import proofs.«01_k».proof.Proof.Body

@[expose] public section

noncomputable section

namespace Cert.Proof.Tile

open Cert.KernelIdeal Cert.KernelIdeal.Gen Cert.Proof.Words Cert.Proof.Pieces Cert.Proof.Setup Cert.Proof.Body
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.SparseCore.Cfg (ownSems0 ownBufs ownCells mem_ownCells ownRefs)

variable (d : Dev nD) (L : grid0.Coords)

/-! ## The slots make up their buffers -/

theorem inS_set (s : Fin 2) : (inS s).view.set = (Rect.part (s := S2x1x128) (a₀ := 0) (n := 2) ⟨1, rfl⟩ s).set := by
  show (((View.whole (cc0_scoped0 : Ref sig .scVector)).slice (Rect.unit (s := S2x1x128) ![s.val, 0, 0] S1x1x128.size (in_inb s))).reshape S1x128 squeezes_S1x1x128_S1x128.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem rowsS_set (s : Fin 2) : (rowsS s).view.set = (Rect.part (s := S2x128x128) (a₀ := 0) (n := 2) ⟨1, rfl⟩ s).set := by
  show (((View.whole (cc0_scoped2 : Ref sig .scVector)).slice (Rect.unit (s := S2x128x128) ![s.val, 0, 0] S1x128x128.size (rows_inb s))).reshape S128x128 squeezes_S1x128x128_S128x128.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The buffer of row numbers, holding anything, is its two slots, each holding anything. -/
theorem in_slots : iprop(∃ f, (thr d L).loc cc0_scoped0 ↦{fullShare} f) ⊣⊢ (iprop(IN (F := F) d L 0 ∗ IN (F := F) d L 1) : sProp 𝕄) := by
  have hd : ∀ s ∈ (Finset.univ : Finset (Fin 2)), ∀ s' ∈ (Finset.univ : Finset (Fin 2)), s ≠ s' → Disjoint (inS s).view.set (inS s').view.set :=
    fun s _ s' _ h => by rw [inS_set, inS_set]; exact Rect.part_disjoint _ h
  have hc : (Finset.univ : Finset (Fin 2)).biUnion (fun s => (inS s).view.set) = Finset.univ :=
    (Finset.biUnion_congr rfl fun s _ => inS_set s).trans (Rect.biUnion_part _)
  unfold IN
  constructor
  · iintro ⟨%f, H⟩
    ihave H' := (Entails.of_eq (show ((thr d L).loc cc0_scoped0 ↦{fullShare} f : sProp 𝕄)
        = iprop(((thr d L).loc cc0_scoped0 ↦[(inS 0).view.set]{fullShare} f) ∗ (thr d L).loc cc0_scoped0 ↦[(inS 1).view.set]{fullShare} f) from
      (congrArg (fun I => ((thr d L).loc cc0_scoped0 ↦[I]{fullShare} f : sProp 𝕄)) hc.symm).trans
        ((pointsTo_biUnion Finset.univ (ℓ := (thr d L).loc cc0_scoped0) (fun s => (inS s).view.set) hd).trans (BI.bigSep_fin_two _)))) $$ H
    icases H' with ⟨H0, H1⟩
    isplitl [H0]
    · iexists f; iexact H0
    · iexists f; iexact H1
  · iintro ⟨⟨%f, H0⟩, %g, H1⟩
    ihave H := ((Entails.of_eq (show iprop(((thr d L).loc cc0_scoped0 ↦[(inS 0).view.set]{fullShare} f) ∗ (thr d L).loc cc0_scoped0 ↦[(inS 1).view.set]{fullShare} g)
        = (bigSep Finset.univ fun s : Fin 2 => ((thr d L).loc cc0_scoped0 ↦[(inS s).view.set]{fullShare} (if s = 0 then f else g) : sProp 𝕄)) by
      rw [BI.bigSep_fin_two, if_pos rfl, if_neg (by decide)]; rfl)).trans
      (pointsTo_biUnion_join (ℓ := (thr d L).loc cc0_scoped0) (q := fullShare) (Val := Elt F) Finset.univ (fun s => (inS s).view.set) (fun s : Fin 2 => if s = 0 then f else g) f hd)) $$ [H0 H1]
    · isplitl [H0]
      · iexact H0
      · iexact H1
    icases H with ⟨%h, -, H⟩
    iexists h
    iapply (Entails.of_eq (congrArg (fun I => ((thr d L).loc cc0_scoped0 ↦[I]{fullShare} h : sProp 𝕄)) hc)) $$ H

/-- And so is the buffer of rows. -/
theorem out_slots : iprop(∃ f, (thr d L).loc cc0_scoped2 ↦{fullShare} f) ⊣⊢ (iprop(OU (F := F) d L 0 ∗ OU (F := F) d L 1) : sProp 𝕄) := by
  have hd : ∀ s ∈ (Finset.univ : Finset (Fin 2)), ∀ s' ∈ (Finset.univ : Finset (Fin 2)), s ≠ s' → Disjoint (rowsS s).view.set (rowsS s').view.set :=
    fun s _ s' _ h => by rw [rowsS_set, rowsS_set]; exact Rect.part_disjoint _ h
  have hc : (Finset.univ : Finset (Fin 2)).biUnion (fun s => (rowsS s).view.set) = Finset.univ :=
    (Finset.biUnion_congr rfl fun s _ => rowsS_set s).trans (Rect.biUnion_part _)
  unfold OU
  constructor
  · iintro ⟨%f, H⟩
    ihave H' := (Entails.of_eq (show ((thr d L).loc cc0_scoped2 ↦{fullShare} f : sProp 𝕄)
        = iprop(((thr d L).loc cc0_scoped2 ↦[(rowsS 0).view.set]{fullShare} f) ∗ (thr d L).loc cc0_scoped2 ↦[(rowsS 1).view.set]{fullShare} f) from
      (congrArg (fun I => ((thr d L).loc cc0_scoped2 ↦[I]{fullShare} f : sProp 𝕄)) hc.symm).trans
        ((pointsTo_biUnion Finset.univ (ℓ := (thr d L).loc cc0_scoped2) (fun s => (rowsS s).view.set) hd).trans (BI.bigSep_fin_two _)))) $$ H
    icases H' with ⟨H0, H1⟩
    isplitl [H0]
    · iexists f; iexact H0
    · iexists f; iexact H1
  · iintro ⟨⟨%f, H0⟩, %g, H1⟩
    ihave H := ((Entails.of_eq (show iprop(((thr d L).loc cc0_scoped2 ↦[(rowsS 0).view.set]{fullShare} f) ∗ (thr d L).loc cc0_scoped2 ↦[(rowsS 1).view.set]{fullShare} g)
        = (bigSep Finset.univ fun s : Fin 2 => ((thr d L).loc cc0_scoped2 ↦[(rowsS s).view.set]{fullShare} (if s = 0 then f else g) : sProp 𝕄)) by
      rw [BI.bigSep_fin_two, if_pos rfl, if_neg (by decide)]; rfl)).trans
      (pointsTo_biUnion_join (ℓ := (thr d L).loc cc0_scoped2) (q := fullShare) (Val := Elt F) Finset.univ (fun s => (rowsS s).view.set) (fun s : Fin 2 => if s = 0 then f else g) f hd)) $$ [H0 H1]
    · isplitl [H0]
      · iexact H0
      · iexact H1
    icases H with ⟨%h, -, H⟩
    iexists h
    iapply (Entails.of_eq (congrArg (fun I => ((thr d L).loc cc0_scoped2 ↦[I]{fullShare} h : sProp 𝕄)) hc)) $$ H

/-! ## The tile's own cells and buffers -/

/-- The cells but the kernel's five. -/
def restCells : Finset (GSem nD τ sig) :=
  (((((ownCells (thr d L)).erase (thr d L, .dma (semIS 0))).erase (thr d L, .dma (semIS 1))).erase (thr d L, .dma (semOS 0))).erase (thr d L, .dma (semOS 1))).erase
    (thr d L, .dma cc0_scoped4.sem)

theorem scoped_dma : ∀ s : DmaSem sig, (SemLoc.dma s : SemLoc sig).isScoped .scVector = true := by decide

theorem cell_mem (s : DmaSem sig) : ((thr d L, .dma s) : GSem nD τ sig) ∈ ownCells (thr d L) := mem_ownCells.mpr ⟨rfl, scoped_dma s⟩

theorem cell_ne {s s' : DmaSem sig} (h : s ≠ s') : ((thr d L, .dma s) : GSem nD τ sig) ≠ (thr d L, .dma s') :=
  fun e => h (SemLoc.dma.inj (Prod.mk.inj e).2)

theorem ownSems0_V : (ownSems0 (thr d L) : sProp 𝕄)
    = iprop(CI (F := F) d L 0 ∗ CI (F := F) d L 1 ∗ CO (F := F) d L 0 ∗ CO (F := F) d L 1 ∗ CG (F := F) d L ∗ bigSep (restCells d L) fun g => semVal g 0) := by
  unfold SparseCore.Cfg.ownSems0 restCells CI CO CG
  rw [SparseCore.bigSep_erase' (cell_mem d L (semIS 0)),
    SparseCore.bigSep_erase' (Finset.mem_erase.mpr ⟨cell_ne d L (s := semIS 1) (by decide), cell_mem d L _⟩),
    SparseCore.bigSep_erase' (Finset.mem_erase.mpr ⟨cell_ne d L (s := semOS 0) (by decide), Finset.mem_erase.mpr ⟨cell_ne d L (by decide), cell_mem d L _⟩⟩),
    SparseCore.bigSep_erase' (Finset.mem_erase.mpr ⟨cell_ne d L (s := semOS 1) (by decide), Finset.mem_erase.mpr ⟨cell_ne d L (by decide),
      Finset.mem_erase.mpr ⟨cell_ne d L (by decide), cell_mem d L _⟩⟩⟩),
    SparseCore.bigSep_erase' (Finset.mem_erase.mpr ⟨cell_ne d L (s := cc0_scoped4.sem) (by decide), Finset.mem_erase.mpr ⟨cell_ne d L (by decide),
      Finset.mem_erase.mpr ⟨cell_ne d L (by decide), Finset.mem_erase.mpr ⟨cell_ne d L (by decide), cell_mem d L _⟩⟩⟩⟩)]

/-- The buffers but the kernel's two. -/
def restBufs : Finset (DevRef τ sig) :=
  ((ownRefs (τ := τ) (thr d L).2).erase ((thr d L).2.devRef cc0_scoped0)).erase ((thr d L).2.devRef cc0_scoped2)

theorem ownBufs_V : (ownBufs (thr d L) : sProp 𝕄)
    = iprop((∃ f, (thr d L).loc cc0_scoped0 ↦{fullShare} f) ∗ (∃ f, (thr d L).loc cc0_scoped2 ↦{fullShare} f)
        ∗ bigSep (restBufs d L) fun b => iprop(∃ f, ((d, b) : Loc nD τ sig) ↦{fullShare} f)) := by
  unfold SparseCore.Cfg.ownBufs restBufs
  refine (SparseCore.bigSep_erase' (SparseCore.Cfg.mem_ownRefs_of_owner (p := (thr d L).2) (b := (thr d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d L).2) (b := (thr d L).2.devRef cc0_scoped2) rfl⟩)]

/-! ## The task -/

variable (fi : Buf (Elt F) (iLoc d)) (ft : Buf (Elt F) (tLoc d)) (f0 : Buf (Elt F) (oLoc d)) (q : PosShare TreeShare)

/-- What the task takes: its four blocks of row numbers, its share of the table, its four blocks of the result; -/
def goes : sProp 𝕄 := iprop((IB d L fi 0 ∗ IB d L fi 1 ∗ IB d L fi 2 ∗ IB d L fi 3) ∗ TB d ft q
  ∗ (OB0 d L f0 0 ∗ OB0 d L f0 1 ∗ OB0 d L f0 2 ∗ OB0 d L f0 3))
/-- and what it brings back: the same, its blocks of the result gathered. -/
def comes : sProp 𝕄 := iprop((IB d L fi 0 ∗ IB d L fi 1 ∗ IB d L fi 2 ∗ IB d L fi 3) ∗ TB d ft q
  ∗ (OB d L fi ft 0 ∗ OB d L fi ft 1 ∗ OB d L fi ft 2 ∗ OB d L fi ft 3))

theorem tile_body (hF : (K (F := F)).Facts) (hr : InRange fi) (O : CellTallies nD τ sig (HIx 1)) (W : Waits sig (HIx 1)) (hO : ∀ g, O g none = 0) :
    iprop(levAts (K (F := F)).L (K (F := F)).lev ∗ emp ∗ goes d L fi ft f0 q
        ∗ scopedBufs (thr d L) ∗ scopedSems0 (thr d L) ∗ owes (thr d L) O W)
      ⊢ run d L (cc0_gather_kernel (F := F) L (Memref.whole main_v0_scv) (Memref.isWhole_whole _) (Memref.whole main_v9_scv) (Memref.isWhole_whole _)
            (Memref.whole main_v10_scv) (Memref.isWhole_whole _) (Memref.whole cc0_scoped0) (Memref.isWhole_whole _) cc0_scoped1
            (Memref.whole cc0_scoped2) (Memref.isWhole_whole _) cc0_scoped3 cc0_scoped4)
          fun _ => iprop(comes d L fi ft q ∗ scopedBufs (thr d L) ∗ scopedSems0 (thr d L)
            ∗ ∃ W', ⌜∀ p ∈ W', p ∈ W ∨ p.2 = none⌝ ∗ owes (thr d L) O W') := by
  rw [show (scopedBufs (thr d L) : sProp 𝕄) = ownBufs (thr d L) from (K (F := F)).scopedBufs_V hF d _ _,
    show (scopedSems0 (thr d L) : sProp 𝕄) = ownSems0 (thr d L) from SparseCore.Cfg.scopedSems0_V (Val := Elt F) d _ _, ownSems0_V, ownBufs_V]
  iintro ⟨#Hlv, -, Hgo, ⟨Hb0, Hb2, Hbufs⟩, ⟨HI0, HI1, HO0, HO1, HG, Hsems⟩, HO⟩
  ihave Hmw := (show levAts (K (F := F)).L (K (F := F)).lev ⊢ Transfers.MayWaits (thr d L) (default : HIx 1) O from
    (K (F := F)).mayWaits_none (thr := thr d L) hO) $$ Hlv
  ihave Hin := (in_slots (F := F) d L).1 $$ Hb0
  ihave Hou := (out_slots (F := F) d L).1 $$ Hb2
  unfold goes
  icases Hgo with ⟨Hi, Ht, Ho⟩
  iapply (kernel_run d L fi ft f0 q O W hr) $$ [Hi Ht Ho Hin Hou HI0 HI1 HO0 HO1 HG HO Hmw]
  · isplitl [Hi]; · iexact Hi
    isplitl [Ho]; · iexact Ho
    isplitl [Hin]; · iexact Hin
    isplitl [Hou]; · iexact Hou
    isplitl [HI0 HI1]
    · isplitl [HI0] <;> iassumption
    isplitl [HO0 HO1]
    · isplitl [HO0] <;> iassumption
    isplitl [HG]; · iexact HG
    isplitl [Ht]; · iexact Ht
    unfold OW
    isplitl [Hmw]; · iexact Hmw
    iexists W; isplitr
    · ipureintro; exact fun p hp => .inl hp
    · iexact HO
  unfold comes OW
  iintro ⟨Hi, Ho, Hin, Hou, ⟨HI0, HI1⟩, ⟨HO0, HO1⟩, HG, Ht, -, HO⟩
  isplitl [Hi Ho Ht]
  · isplitl [Hi]; · iexact Hi
    isplitl [Ht]; · iexact Ht
    iexact Ho
  isplitl [Hin Hou Hbufs]
  · isplitl [Hin]; · iapply (in_slots (F := F) d L).2; iexact Hin
    isplitl [Hou]; · iapply (out_slots (F := F) d L).2; iexact Hou
    iexact Hbufs
  isplitl [HI0 HI1 HO0 HO1 HG Hsems]
  · isplitl [HI0]; · iexact HI0
    isplitl [HI1]; · iexact HI1
    isplitl [HO0]; · iexact HO0
    isplitl [HO1]; · iexact HO1
    isplitl [HG]; · iexact HG
    iexact Hsems
  iexact HO

end Cert.Proof.Tile

end
-- ==== Proof.Split.lean ====
/-
  The arrays of the gather cut up among the 32 tiles: the row numbers and the result into 128 blocks of 128 rows, four
  to a tile, and the table, which every tile reads whole, into 32 shares.
-/
module

public import proofs.«01_k».proof.Proof.Tile
public import Idealize.ShloMosaic.Lib.ShareLeaves
public import Idealize.ShloMosaic.Lib.Ring.AtN

@[expose] public section

noncomputable section

namespace Cert.Proof.Split

open Cert.KernelIdeal Cert.KernelIdeal.Gen Cert.Proof.Words Cert.Proof.Pieces Cert.Proof.Setup Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A tile's coordinates in the grid. -/
def coordsV (c : Fin (grid0.bound 0)) (s : Fin (grid0.bound 1)) : grid0.Coords :=
  fun | 0 => c | 1 => s | ⟨_ + 2, h⟩ => absurd h (Nat.not_lt.2 (Nat.le_add_left _ _))

abbrev tile (c : Fin 2) (i : Fin 16) : grid0.Coords := coordsV c i

/-- The number of tile `(c, i)`, and of its block `k`. -/
def num : Fin 2 × Fin 16 ≃ Fin (2 ^ 5) := finProdFinEquiv
def blk : (Fin 2 × Fin 16) × Fin 4 ≃ Fin 128 := ((Equiv.prodCongr num (Equiv.refl _)).trans finProdFinEquiv)

theorem blk_val (c : Fin 2) (i : Fin 16) (k : Fin 4) : (blk ((c, i), k)).val = k.val + 4 * (i.val + 16 * c.val) := rfl

theorem idiv : 128 ∣ S1x16384.size 1 := ⟨128, rfl⟩
theorem odiv : 128 ∣ S16384x128.size 0 := ⟨128, rfl⟩

/-! ## The blocks are the parts -/

theorem idxB_set (c : Fin 2) (i : Fin 16) (k : Fin 4) : (idxB (tile c i) k).view.set = (Rect.part (s := S1x16384) (a₀ := 1) idiv (blk ((c, i), k))).set := by
  show ((View.whole (main_v9_scv : Ref sig .scVector)).slice (Rect.unit (s := S1x16384) ![0, base (tile c i) + 128 * k.val] S1x128.size (idx_inb (tile c i) k))).set = _
  rw [View.set_slice]
  refine Finset.map_refl.trans (congrArg (fun r : Rect _ => r.set) ?_)
  have e : base (tile c i) + 128 * k.val = (blk ((c, i), k)).val * 128 := by
    rw [blk_val]; show 512 * i.val + 8192 * c.val + 128 * k.val = _; omega
  unfold Rect.part Rect.block
  congr 1 <;> funext a
  · match a with
    | 0 => simp [Shape.partIx, Shape.partSize]
    | 1 => simp [Shape.partIx, Shape.partSize, e]
  · match a with
    | 0 => simp [Shape.partSize]
    | 1 => simp [Shape.partSize]

theorem outB_set (c : Fin 2) (i : Fin 16) (k : Fin 4) : (outB (tile c i) k).view.set = (Rect.part (s := S16384x128) (a₀ := 0) odiv (blk ((c, i), k))).set := by
  show ((View.whole (main_v10_scv : Ref sig .scVector)).slice (Rect.unit (s := S16384x128) ![base (tile c i) + 128 * k.val, 0] S128x128.size (out_inb (tile c i) k))).set = _
  rw [View.set_slice]
  refine Finset.map_refl.trans (congrArg (fun r : Rect _ => r.set) ?_)
  have e : base (tile c i) + 128 * k.val = (blk ((c, i), k)).val * 128 := by
    rw [blk_val]; show 512 * i.val + 8192 * c.val + 128 * k.val = _; omega
  unfold Rect.part Rect.block
  congr 1 <;> funext a
  · match a with
    | 0 => simp [Shape.partIx, Shape.partSize, e]
    | 1 => simp [Shape.partIx, Shape.partSize]
  · match a with
    | 0 => simp [Shape.partSize]
    | 1 => simp [Shape.partSize]

/-! ## A family over the blocks, tile by tile -/

theorem bigSep_blocks (Φ : Fin 128 → sProp 𝕄) : bigSep Finset.univ Φ
    = bigSep Finset.univ fun c : Fin 2 => bigSep Finset.univ fun i : Fin 16 =>
        iprop(Φ (blk ((c, i), 0)) ∗ Φ (blk ((c, i), 1)) ∗ Φ (blk ((c, i), 2)) ∗ Φ (blk ((c, i), 3))) := by
  rw [bigSep_univ_equiv blk Φ, bigSep_univ_prod, bigSep_univ_prod]
  exact bigSep_congr fun c _ => bigSep_congr fun i _ => Ring.bigSep_fin4 _

variable (d : Dev nD) (fi : Buf (Elt F) (iLoc d)) (ft : Buf (Elt F) (tLoc d)) (f0 : Buf (Elt F) (oLoc d))

/-- The row numbers are the tiles' blocks of them; -/
theorem iPts_blocks : (iLoc d ↦{fullShare} fi : sProp 𝕄) = bigSep Finset.univ fun c : Fin 2 => bigSep Finset.univ fun i : Fin 16 =>
    iprop(IB d (tile c i) fi 0 ∗ IB d (tile c i) fi 1 ∗ IB d (tile c i) fi 2 ∗ IB d (tile c i) fi 3) := by
  have h : (iLoc d ↦{fullShare} fi : sProp 𝕄) = bigSep Finset.univ fun j : Fin 128 => iLoc d ↦[(Rect.part (s := S1x16384) (a₀ := 1) idiv j).set]{fullShare} fi :=
    (congrArg (fun I => (iLoc d ↦[I]{fullShare} fi : sProp 𝕄)) (Rect.biUnion_part idiv).symm).trans
      (pointsTo_biUnion Finset.univ (ℓ := iLoc d) (fun j => (Rect.part (s := S1x16384) (a₀ := 1) idiv j).set) fun _ _ _ _ h => Rect.part_disjoint idiv h)
  refine h.trans ((bigSep_blocks _).trans (bigSep_congr fun c _ => bigSep_congr fun i _ => ?_))
  have e (k : Fin 4) : IB d (tile c i) fi k = (iLoc d ↦[(Rect.part (s := S1x16384) (a₀ := 1) idiv (blk ((c, i), k))).set]{fullShare} fi : sProp 𝕄) :=
    congrArg (fun I => (iLoc d ↦[I]{fullShare} fi : sProp 𝕄)) (idxB_set c i k)
  rw [e 0, e 1, e 2, e 3]

/-- and the result is the tiles' blocks of it. -/
theorem oPts_blocks : (oLoc d ↦{fullShare} f0 : sProp 𝕄) = bigSep Finset.univ fun c : Fin 2 => bigSep Finset.univ fun i : Fin 16 =>
    iprop(OB0 d (tile c i) f0 0 ∗ OB0 d (tile c i) f0 1 ∗ OB0 d (tile c i) f0 2 ∗ OB0 d (tile c i) f0 3) := by
  have h : (oLoc d ↦{fullShare} f0 : sProp 𝕄) = bigSep Finset.univ fun j : Fin 128 => oLoc d ↦[(Rect.part (s := S16384x128) (a₀ := 0) odiv j).set]{fullShare} f0 :=
    (congrArg (fun I => (oLoc d ↦[I]{fullShare} f0 : sProp 𝕄)) (Rect.biUnion_part odiv).symm).trans
      (pointsTo_biUnion Finset.univ (ℓ := oLoc d) (fun j => (Rect.part (s := S16384x128) (a₀ := 0) odiv j).set) fun _ _ _ _ h => Rect.part_disjoint odiv h)
  refine h.trans ((bigSep_blocks _).trans (bigSep_congr fun c _ => bigSep_congr fun i _ => ?_))
  have e (k : Fin 4) : OB0 d (tile c i) f0 k = (oLoc d ↦[(Rect.part (s := S16384x128) (a₀ := 0) odiv (blk ((c, i), k))).set]{fullShare} f0 : sProp 𝕄) :=
    congrArg (fun I => (oLoc d ↦[I]{fullShare} f0 : sProp 𝕄)) (outB_set c i k)
  rw [e 0, e 1, e 2, e 3]

/-- Tile `(c, i)`'s share of the table. -/
def shareOf (c : Fin 2) (i : Fin 16) : PosShare TreeShare := ShareLeaves.leaf 5 fullShare (num (c, i))

/-- The table is the tiles' shares of it. -/
theorem tPts_shares : (tLoc d ↦{fullShare} ft : sProp 𝕄) = bigSep Finset.univ fun c : Fin 2 => bigSep Finset.univ fun i : Fin 16 =>
    TB d ft (shareOf c i) := by
  refine (ShareLeaves.pointsTo_leaves Finset.univ ft 5 fullShare).trans ?_
  rw [bigSep_univ_equiv num, bigSep_univ_prod]
  rfl

/-! ## All three, to the tiles and back -/

theorem bigSep_sep₂ {A B : Fin 2 → Fin 16 → sProp 𝕄} : (bigSep Finset.univ fun c => bigSep Finset.univ fun i => iprop(A c i ∗ B c i))
    = iprop((bigSep Finset.univ fun c => bigSep Finset.univ fun i => A c i) ∗ bigSep Finset.univ fun c => bigSep Finset.univ fun i => B c i) := by
  refine Eq.trans (bigSep_congr fun c _ => bigSep_sep' _ _ _) (bigSep_sep' _ _ _)

theorem goes_all : iprop((iLoc d ↦{fullShare} fi) ∗ (tLoc d ↦{fullShare} ft) ∗ oLoc d ↦{fullShare} f0)
    = (bigSep Finset.univ fun c : Fin 2 => bigSep Finset.univ fun i : Fin 16 => goes d (tile c i) fi ft f0 (shareOf c i) : sProp 𝕄) := by
  rw [iPts_blocks, tPts_shares, oPts_blocks, ← bigSep_sep₂, ← bigSep_sep₂]; rfl

theorem comes_all : iprop((iLoc d ↦{fullShare} fi) ∗ (tLoc d ↦{fullShare} ft) ∗ oLoc d ↦{fullShare} gathered ft fi)
    = (bigSep Finset.univ fun c : Fin 2 => bigSep Finset.univ fun i : Fin 16 => comes d (tile c i) fi ft (shareOf c i) : sProp 𝕄) :=
  goes_all d fi ft (gathered ft fi)

end Cert.Proof.Split

end
-- ==== Proof.AttnBody.lean ====
/-
  The attention stage at one block of rows: what its body does to the two scratch arrays (the keys and the values of
  the rows so far) and what it leaves in the result's block, over any float values.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Proof.AttnBody

open Cert.KernelIdeal Cert.KernelIdeal.Gen Cert.Proof.Setup
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The rectangles the body reads and writes -/

abbrev rX : Rect S256x1024 := Rect.unit (s := S256x1024) ![0, 0] S256x1024.size inb_S256x1024_S256x1024_0_0
abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
/-- The block's own rows of a scratch array, -/
abbrev rOwn (i : grid1.Coords) : Rect S2048x1024 := Rect.unit (s := S2048x1024) (k1_off1 i) S256x1024.size (k1_off1_inb i)
/-- the window of rows the block attends to, and the two rows attended to from everywhere. -/
abbrev rWin (i : grid1.Coords) : Rect S2048x1024 := Rect.unit (s := S2048x1024) (k1_off2 i) S768x1024.size (k1_off2_inb i)
abbrev rRow0 : Rect S2048x1024 := Rect.unit (s := S2048x1024) ![0, 0] S1x1024.size inb_S2048x1024_S1x1024_0_0
abbrev rRow1024 : Rect S2048x1024 := Rect.unit (s := S2048x1024) ![1024, 0] S1x1024.size inb_S2048x1024_S1x1024_1024_0

theorem k1_off2_eq : ∀ i : grid1.Coords, k1_off2 i = ![256 * (i 0).val - 512, 0] := by decide +kernel
instance closedOff_k1_off2 (i : grid1.Coords) : ClosedOff (k1_off2 i) := ⟨![256 * (i 0).val - 512, 0], k1_off2_eq i⟩

/-! ## What the body computes -/

/-- The block's index, and the first row of its window. -/
abbrev blkNo (i : grid1.Coords) : BitVec 32 := BitVec.ofNat 32 (i 0).val
abbrev wStart (i : grid1.Coords) : BitVec 32 := Scalar.maxsi (Scalar.subi (Scalar.muli (blkNo i) 256#32) 512#32) 0#32

/-- The block's queries, keys and values, from the block's rows `x0`, the rows `x1` of the block before it, a matrix and a bias. -/
abbrev qBlk (i : grid1.Coords) (x0 x1 : Vec F S256x1024 .f32) (w : Vec F S1024x1024 .f32) (b : Vec F S1x1024 .f32) : FVec F S256x1024 .f32 :=
  k1_pay3 i (View.ld x1 rX) (View.ld x0 rX) (View.ld w rM) (View.ld b rB)
abbrev kBlk (i : grid1.Coords) (x0 x1 : Vec F S256x1024 .f32) (w : Vec F S1024x1024 .f32) (b : Vec F S1x1024 .f32) : FVec F S256x1024 .f32 :=
  k1_pay7 (k1_pay4 i (View.ld x1 rX) (View.ld x0 rX) (View.ld w rM) (View.ld b rB))
abbrev vBlk (i : grid1.Coords) (x0 x1 : Vec F S256x1024 .f32) (w : Vec F S1024x1024 .f32) (b : Vec F S1x1024 .f32) : FVec F S256x1024 .f32 :=
  k1_pay8 (k1_pay5 i (View.ld x1 rX) (View.ld x0 rX) (View.ld w rM)) (k1_pay6 (View.ld b rB))

/-- The block of the result, from the block's queries, the keys and values so far, and the last stage's arrays. -/
def oBlk (i : grid1.Coords) (q : FVec F S256x1024 .f32) (k v : Vec F S2048x1024 .f32) (wo : Vec F S1024x1024 .f32) (bo g be : Vec F S1x1024 .f32) :
    FVec F S256x1024 .bf16 :=
  let v74 := k1_pay10 (blkNo i)
  let v79 := k1_pay11 q (View.ld k (rWin i))
  let v80 := k1_pay12 (blkNo i)
  let v86 : Vec F S1x1024 .f32 := View.ld k rRow0
  let v95 : Vec F S1x1024 .f32 := View.ld k rRow1024
  k1_pay1 (k1_pay22 (k1_pay9 (blkNo i) (View.ld v (rWin i))) (View.ld v rRow0) (k1_pay16 (wStart i) (View.ld v rRow1024))
      (k1_pay18 q (wStart i) v74 v79 v80 v86 v95) (k1_pay19 q (wStart i) v74 v79 v80 v86 v95) (k1_pay20 q (wStart i) v74 v79 v80 v86 v95)
      (k1_pay21 q (wStart i) v74 v79 v80 v86 v95) (View.ld wo rM) (View.ld bo rB) (View.ld g rB))
    (View.ld be rB)

/-- The result's buffer after its one store. -/
def outB (i : grid1.Coords) (q : FVec F S256x1024 .f32) (k v : Vec F S2048x1024 .f32) (wo : Vec F S1024x1024 .f32) (bo g be : Vec F S1x1024 .f32) :
    Vec F S256x1024 .bf16 := View.canon [⟨rX, oBlk i q k v wo bo g be⟩]

theorem cover_out (p0 : Vec F S256x1024 .bf16) (y : S256x1024.Idx) : ∃ pc ∈ ([⟨rX, p0⟩] : List (View.Piece (Elt F) S256x1024 .bf16)), y ∈ pc.1.set :=
  View.cover_of_tiled [⟨rX, p0⟩] S256x1024.size (by rfl) y

/-- `k'` is `k` with the rows of block `i` replaced by `p`. -/
def Put (i : grid1.Coords) (p : FVec F S256x1024 .f32) (k k' : Vec F S2048x1024 .f32) : Prop :=
  View.ld k' (rOwn i) = p ∧ ∀ y, y ∉ (rOwn i).set → k' y = k y

theorem put_writes {sp : Space} (v : View sig .tc sp S2048x1024 .f32) (f : v.ty.Contents (Elt F)) (i : grid1.Coords) (p : FVec F S256x1024 .f32) :
    Put i p (v.read (Elt F) f) (v.read (Elt F) (v.writes (Elt F) f [⟨rOwn i, p⟩])) :=
  ⟨funext fun x => View.read_writes_cons_emb v f (rOwn i) p [] x,
    fun y hy => View.read_writes_apply_of_forall_not_mem v f y _ fun q hq => by rcases List.mem_singleton.mp hq with rfl; exact hy⟩

/-! ## The body's triple -/

set_option maxHeartbeats 4000000 in
theorem sound_kernel (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S2048x1024 .f32) (harg14 : arg14.IsWhole) (arg15 : Memref sig .tc .vmem S2048x1024 .f32) (harg15 : arg15.IsWhole)
    (x0 x1 : Vec F S256x1024 .f32) (wq : Vec F S1024x1024 .f32) (bq : Vec F S1x1024 .f32) (wk : Vec F S1024x1024 .f32) (bk : Vec F S1x1024 .f32) (wv : Vec F S1024x1024 .f32) (bv : Vec F S1x1024 .f32)
    (wo : Vec F S1024x1024 .f32) (bo g be : Vec F S1x1024 .f32) (k0 v0 : Vec F S2048x1024 .f32) (K : PUnit → sProp 𝕄) :
    iprop(owns (c : Thread nD τ) arg1 fullShare x0 ∗ owns (c : Thread nD τ) arg2 fullShare x1 ∗ owns (c : Thread nD τ) arg3 fullShare wq ∗ owns (c : Thread nD τ) arg4 fullShare bq
        ∗ owns (c : Thread nD τ) arg5 fullShare wk ∗ owns (c : Thread nD τ) arg6 fullShare bk ∗ owns (c : Thread nD τ) arg7 fullShare wv ∗ owns (c : Thread nD τ) arg8 fullShare bv
        ∗ owns (c : Thread nD τ) arg9 fullShare wo ∗ owns (c : Thread nD τ) arg10 fullShare bo ∗ owns (c : Thread nD τ) arg11 fullShare g ∗ owns (c : Thread nD τ) arg12 fullShare be
        ∗ (∃ d, owns (c : Thread nD τ) arg13 fullShare d) ∗ owns (c : Thread nD τ) arg14 fullShare k0 ∗ owns (c : Thread nD τ) arg15 fullShare v0
        ∗ (∀ k v, iprop(⌜Put i (kBlk i x0 x1 wk bk) k0 k ∧ Put i (vBlk i x0 x1 wv bv) v0 v⌝
            ∗ owns (c : Thread nD τ) arg1 fullShare x0 ∗ owns (c : Thread nD τ) arg2 fullShare x1 ∗ owns (c : Thread nD τ) arg3 fullShare wq ∗ owns (c : Thread nD τ) arg4 fullShare bq
            ∗ owns (c : Thread nD τ) arg5 fullShare wk ∗ owns (c : Thread nD τ) arg6 fullShare bk ∗ owns (c : Thread nD τ) arg7 fullShare wv ∗ owns (c : Thread nD τ) arg8 fullShare bv
            ∗ owns (c : Thread nD τ) arg9 fullShare wo ∗ owns (c : Thread nD τ) arg10 fullShare bo ∗ owns (c : Thread nD τ) arg11 fullShare g ∗ owns (c : Thread nD τ) arg12 fullShare be
            ∗ owns (c : Thread nD τ) arg13 fullShare (outB i (qBlk i x0 x1 wq bq) k v wo bo g be) ∗ owns (c : Thread nD τ) arg14 fullShare k ∗ owns (c : Thread nD τ) arg15 fullShare v) -∗ K ⟨⟩))
      ⊢ wp frame (wpE (defs₀ (F := F)) Variants.none c none) E
          (cc1__attn_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__attn_body_eq_skeleton]; unfold cc1__attn_body_skel
  simp only [k1_part1_eq_skeleton, k1_part2_eq_skeleton, k1_part3_eq_skeleton, k1_part4_eq_skeleton]
  unfold k1_part1_skel k1_part2_skel k1_part3_skel k1_part4_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d13, %f13, -, H13⟩, ⟨%f14, %h14, H14⟩, ⟨%f15, %h15, H15⟩, Hk⟩
  subst h1 h2 h3 h4 h5 h6 h7 h8 h9 h10 h11 h12 h14 h15
  sl_exec
  sl_step
  iapply Hk $$ %(arg14.view.read (Elt F) (arg14.view.writes (Elt F) f14 [⟨rOwn i, kBlk i (arg1.view.read (Elt F) f1) (arg2.view.read (Elt F) f2) (arg5.view.read (Elt F) f5) (arg6.view.read (Elt F) f6)⟩]))
    %(arg15.view.read (Elt F) (arg15.view.writes (Elt F) f15 [⟨rOwn i, vBlk i (arg1.view.read (Elt F) f1) (arg2.view.read (Elt F) f2) (arg7.view.read (Elt F) f7) (arg8.view.read (Elt F) f8)⟩]))
  isplitr; · ipureintro; exact ⟨put_writes .., put_writes ..⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_out _)
  isplitl [H14]
  · iexists _; isplitr
    swap; · iexact H14
    ipureintro; rfl
  iexists _; isplitr
  swap; · iexact H15
  ipureintro; rfl

end Cert.Proof.AttnBody

end
-- ==== Proof.AttnRegion.lean ====
/-
  The attention stage as a whole: its eight blocks in order, what the two scratch arrays hold between them, and the
  stage as one step of @main, over any float values.
-/
module

public import proofs.«01_k».proof.Proof.AttnBody
public import Idealize.ShloMosaic.Lib.Pipeline.Regions
public import Idealize.ShloMosaic.Lib.Pipeline.RegionArraysF
public import Idealize.ShloMosaic.Lib.Pipeline.ArrRel

@[expose] public section

set_option maxRecDepth 16384

noncomputable section

namespace Cert.Proof.AttnRegion

open Cert.KernelIdeal Cert.KernelIdeal.Gen Cert.Proof.Setup Cert.Proof.AttnBody
open Idealize.ShloMosaic Idealize.ShloMosaic.TcCoe Idealize.ShloMosaic.Tactic
open Idealize.ShloMosaic.Pipeline (arrRef)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (V : Dev nD → Valuation τ sig (Elt F))

/-! ## The blocks of the arrays -/

/-- Window `w`'s array when the stage is entered, and its block at point `t`. -/
abbrev arrV (d : Dev nD) (w : Fin 13) : Buf (Elt F) ((cfg1.win w).arr.view.loc (d.tc : Thread nD τ)) := V d (Proc.devRef .tc (arrRef spec1 w))
def blk (d : Dev nD) (w : Fin 13) (t : Fin grid1.N) : ((cfg1.win w).xblock (grid1.coords t)).Idx → Elt F (cfg1.win w).elt :=
  ((cfg1.win w).blk t).view.read (Elt F) (arrV V d w)

/-- Point `u`'s queries, keys and values. -/
def qAt (d : Dev nD) (u : Fin grid1.N) : FVec F S256x1024 .f32 := qBlk (grid1.coords u) (blk V d 0 u) (blk V d 1 u) (blk V d 2 u) (blk V d 3 u)
def kAt (d : Dev nD) (u : Fin grid1.N) : FVec F S256x1024 .f32 := kBlk (grid1.coords u) (blk V d 0 u) (blk V d 1 u) (blk V d 4 u) (blk V d 5 u)
def vAt (d : Dev nD) (u : Fin grid1.N) : FVec F S256x1024 .f32 := vBlk (grid1.coords u) (blk V d 0 u) (blk V d 1 u) (blk V d 6 u) (blk V d 7 u)

/-- The rows of the first `n` blocks of a scratch array are `p`'s. -/
def Good (p : Fin grid1.N → FVec F S256x1024 .f32) (n : ℕ) (k : Vec F S2048x1024 .f32) : Prop :=
  ∀ u : Fin grid1.N, u.val < n → View.ld k (rOwn (grid1.coords u)) = p u

theorem coords_val : ∀ u : Fin grid1.N, (grid1.coords u 0).val = u.val := by decide +kernel

/-- Two points' rows are apart. -/
theorem own_apart {u t : Fin grid1.N} (h : u ≠ t) (x : S256x1024.Idx) : (rOwn (grid1.coords u)).emb x ∉ (rOwn (grid1.coords t)).set := by
  intro hx
  have h0 := (Rect.mem_set_unit.mp hx) 0
  have e : ((rOwn (grid1.coords u)).emb x 0).val = k1_off1 (grid1.coords u) 0 + 1 * (x 0).val := rfl
  have hu : k1_off1 (grid1.coords u) 0 = 256 * u.val := by rw [k1_off1_eq]; show 256 * (grid1.coords u 0).val = _; rw [coords_val]
  have ht : k1_off1 (grid1.coords t) 0 = 256 * t.val := by rw [k1_off1_eq]; show 256 * (grid1.coords t 0).val = _; rw [coords_val]
  rw [e, hu, ht] at h0
  have hx0 : (x 0).val < 256 := (x 0).isLt
  obtain ⟨h1, h2⟩ := h0
  change _ < 256 * t.val + 256 at h2
  exact h (Fin.ext (by clear hx e; omega))

/-- A block's rows put in, one more block is good. -/
theorem good_put {p : Fin grid1.N → FVec F S256x1024 .f32} {t : Fin grid1.N} {k k' : Vec F S2048x1024 .f32} (hg : Good p t.val k)
    (hp : Put (grid1.coords t) (p t) k k') : Good p (t.val + 1) k' := by
  intro u hu
  by_cases e : u = t
  · subst e; exact hp.1
  · rw [← hg u (by have : u.val ≠ t.val := fun h => e (Fin.ext h)
                   omega)]
    funext x
    exact hp.2 _ (own_apart e x)

theorem good_zero (p : Fin grid1.N → FVec F S256x1024 .f32) (k : Vec F S2048x1024 .f32) : Good p 0 k := fun _ h => absurd h (Nat.not_lt_zero _)

/-! ## What the stage's proof says of each window and of the scratch arrays -/

/-- What point `t` may leave in the result's buffer. -/
def OutOK (d : Dev nD) (t : Fin grid1.N) (X : Vec F S256x1024 .bf16) : Prop :=
  ∃ k v : Vec F S2048x1024 .f32, Good (kAt V d) (t.val + 1) k ∧ Good (vAt V d) (t.val + 1) v
    ∧ X = outB (grid1.coords t) (qAt V d t) k v (blk V d 8 t) (blk V d 9 t) (blk V d 10 t) (blk V d 11 t)

/-- The waits recorded on the core when the stage runs are no higher than those of the call before it. -/
def below (d : Dev nD) : Set (SemLoc sig × HIx 1) := {p | (K (F := F)).lev (d.tc, p.1) p.2 ≤ 8}

def rdat (d : Dev nD) : Pipeline.RDat τ (Elt F) (HIx 1) ℕ UU ℕ cfg1 d where
  A w := arrV V d w
  after w t Y X := match w with
    | ⟨0, _⟩ => X = Y | ⟨1, _⟩ => X = Y | ⟨2, _⟩ => X = Y | ⟨3, _⟩ => X = Y | ⟨4, _⟩ => X = Y | ⟨5, _⟩ => X = Y | ⟨6, _⟩ => X = Y
    | ⟨7, _⟩ => X = Y | ⟨8, _⟩ => X = Y | ⟨9, _⟩ => X = Y | ⟨10, _⟩ => X = Y | ⟨11, _⟩ => X = Y
    | ⟨12, _⟩ => OutOK V d t X
    | ⟨_ + 13, h⟩ => absurd h (Nat.not_lt.2 (Nat.le_add_left _ _))
  Φ t := iprop(∃ k v : Vec F S2048x1024 .f32, ⌜Good (kAt V d) t.val k ∧ Good (vAt V d) t.val v⌝
    ∗ owns (d.tc : Thread nD τ) (Memref.whole cc1_scratch0) fullShare k ∗ owns (d.tc : Thread nD τ) (Memref.whole cc1_scratch1) fullShare v)
  q w := Pipeline.shareOf spec1 w
  owed _ := 0
  recorded _ := below (F := F) d

theorem Φ_eq (d : Dev nD) (t : Fin (cfg1.N + 1)) : (rdat V d).Φ t = iprop(∃ k v : Vec F S2048x1024 .f32, ⌜Good (kAt V d) t.val k ∧ Good (vAt V d) t.val v⌝
    ∗ owns (d.tc : Thread nD τ) (Memref.whole cc1_scratch0) fullShare k ∗ owns (d.tc : Thread nD τ) (Memref.whole cc1_scratch1) fullShare v) := rfl

/-! An input's buffer holds its block, fetched at the point or not. -/

theorem finds_0 (d : Dev nD) (t : Fin grid1.N) (Y) (h : (rdat V d).Finds 0 t Y) : Y = blk V d 0 t := by
  obtain ⟨e, rfl⟩ := Pipeline.RDat.finds_in_eq_fetched (rdat V d) 0 rfl (fun _ _ _ => rfl) (fun _ _ _ h => h) t Y h
  unfold Pipeline.RDat.fetched Pipeline.RDat.blockOf blk; rfl
theorem finds_1 (d : Dev nD) (t : Fin grid1.N) (Y) (h : (rdat V d).Finds 1 t Y) : Y = blk V d 1 t := by
  obtain ⟨e, rfl⟩ := Pipeline.RDat.finds_in_eq_fetched (rdat V d) 1 rfl (fun _ _ _ => rfl) (fun _ _ _ h => h) t Y h
  unfold Pipeline.RDat.fetched Pipeline.RDat.blockOf blk; rfl
theorem finds_2 (d : Dev nD) (t : Fin grid1.N) (Y) (h : (rdat V d).Finds 2 t Y) : Y = blk V d 2 t := by
  obtain ⟨e, rfl⟩ := Pipeline.RDat.finds_in_eq_fetched (rdat V d) 2 rfl (fun _ _ _ => rfl) (fun _ _ _ h => h) t Y h
  unfold Pipeline.RDat.fetched Pipeline.RDat.blockOf blk; rfl
theorem finds_3 (d : Dev nD) (t : Fin grid1.N) (Y) (h : (rdat V d).Finds 3 t Y) : Y = blk V d 3 t := by
  obtain ⟨e, rfl⟩ := Pipeline.RDat.finds_in_eq_fetched (rdat V d) 3 rfl (fun _ _ _ => rfl) (fun _ _ _ h => h) t Y h
  unfold Pipeline.RDat.fetched Pipeline.RDat.blockOf blk; rfl
theorem finds_4 (d : Dev nD) (t : Fin grid1.N) (Y) (h : (rdat V d).Finds 4 t Y) : Y = blk V d 4 t := by
  obtain ⟨e, rfl⟩ := Pipeline.RDat.finds_in_eq_fetched (rdat V d) 4 rfl (fun _ _ _ => rfl) (fun _ _ _ h => h) t Y h
  unfold Pipeline.RDat.fetched Pipeline.RDat.blockOf blk; rfl
theorem finds_5 (d : Dev nD) (t : Fin grid1.N) (Y) (h : (rdat V d).Finds 5 t Y) : Y = blk V d 5 t := by
  obtain ⟨e, rfl⟩ := Pipeline.RDat.finds_in_eq_fetched (rdat V d) 5 rfl (fun _ _ _ => rfl) (fun _ _ _ h => h) t Y h
  unfold Pipeline.RDat.fetched Pipeline.RDat.blockOf blk; rfl
theorem finds_6 (d : Dev nD) (t : Fin grid1.N) (Y) (h : (rdat V d).Finds 6 t Y) : Y = blk V d 6 t := by
  obtain ⟨e, rfl⟩ := Pipeline.RDat.finds_in_eq_fetched (rdat V d) 6 rfl (fun _ _ _ => rfl) (fun _ _ _ h => h) t Y h
  unfold Pipeline.RDat.fetched Pipeline.RDat.blockOf blk; rfl
theorem finds_7 (d : Dev nD) (t : Fin grid1.N) (Y) (h : (rdat V d).Finds 7 t Y) : Y = blk V d 7 t := by
  obtain ⟨e, rfl⟩ := Pipeline.RDat.finds_in_eq_fetched (rdat V d) 7 rfl (fun _ _ _ => rfl) (fun _ _ _ h => h) t Y h
  unfold Pipeline.RDat.fetched Pipeline.RDat.blockOf blk; rfl
theorem finds_8 (d : Dev nD) (t : Fin grid1.N) (Y) (h : (rdat V d).Finds 8 t Y) : Y = blk V d 8 t := by
  obtain ⟨e, rfl⟩ := Pipeline.RDat.finds_in_eq_fetched (rdat V d) 8 rfl (fun _ _ _ => rfl) (fun _ _ _ h => h) t Y h
  unfold Pipeline.RDat.fetched Pipeline.RDat.blockOf blk; rfl
theorem finds_9 (d : Dev nD) (t : Fin grid1.N) (Y) (h : (rdat V d).Finds 9 t Y) : Y = blk V d 9 t := by
  obtain ⟨e, rfl⟩ := Pipeline.RDat.finds_in_eq_fetched (rdat V d) 9 rfl (fun _ _ _ => rfl) (fun _ _ _ h => h) t Y h
  unfold Pipeline.RDat.fetched Pipeline.RDat.blockOf blk; rfl
theorem finds_10 (d : Dev nD) (t : Fin grid1.N) (Y) (h : (rdat V d).Finds 10 t Y) : Y = blk V d 10 t := by
  obtain ⟨e, rfl⟩ := Pipeline.RDat.finds_in_eq_fetched (rdat V d) 10 rfl (fun _ _ _ => rfl) (fun _ _ _ h => h) t Y h
  unfold Pipeline.RDat.fetched Pipeline.RDat.blockOf blk; rfl
theorem finds_11 (d : Dev nD) (t : Fin grid1.N) (Y) (h : (rdat V d).Finds 11 t Y) : Y = blk V d 11 t := by
  obtain ⟨e, rfl⟩ := Pipeline.RDat.finds_in_eq_fetched (rdat V d) 11 rfl (fun _ _ _ => rfl) (fun _ _ _ h => h) t Y h
  unfold Pipeline.RDat.fetched Pipeline.RDat.blockOf blk; rfl

/-! ## The body at a point -/

theorem defs₀_row (t : Fin grid1.N) (s : (w : Fin 13) → Fin (win1 w).nbuf) : defs₀ (F := F) .tc cfg1.body (cfg1.bodyArgs t s)
    = cc1__attn_body (grid1.coords t) (win1_0.stage (s 0)) (hstage1_0 ((s 0).cast nbuf1_0)) (win1_1.stage (s 1)) (hstage1_1 ((s 1).cast nbuf1_1)) (win1_2.stage (s 2)) (hstage1_2 ((s 2).cast nbuf1_2)) (win1_3.stage (s 3)) (hstage1_3 ((s 3).cast nbuf1_3)) (win1_4.stage (s 4)) (hstage1_4 ((s 4).cast nbuf1_4)) (win1_5.stage (s 5)) (hstage1_5 ((s 5).cast nbuf1_5)) (win1_6.stage (s 6)) (hstage1_6 ((s 6).cast nbuf1_6)) (win1_7.stage (s 7)) (hstage1_7 ((s 7).cast nbuf1_7)) (win1_8.stage (s 8)) (hstage1_8 ((s 8).cast nbuf1_8)) (win1_9.stage (s 9)) (hstage1_9 ((s 9).cast nbuf1_9)) (win1_10.stage (s 10)) (hstage1_10 ((s 10).cast nbuf1_10)) (win1_11.stage (s 11)) (hstage1_11 ((s 11).cast nbuf1_11)) (win1_12.stage (s 12)) (hstage1_12 ((s 12).cast nbuf1_12))
        (Memref.whole cc1_scratch0) (Memref.isWhole_whole _) (Memref.whole cc1_scratch1) (Memref.isWhole_whole _) := rfl

set_option maxHeartbeats 4000000 in
theorem body_obligation (d : Dev nD) : (rdat V d).BodyObligation (defs₀ (F := F)) Variants.none (default : HIx 1) Set.univ := by
  intro t Y hY
  rw [defs₀_row, bigSep_W1, bigSep_W1]
  rw [finds_0 V d t _ (hY 0), finds_1 V d t _ (hY 1), finds_2 V d t _ (hY 2), finds_3 V d t _ (hY 3), finds_4 V d t _ (hY 4), finds_5 V d t _ (hY 5), finds_6 V d t _ (hY 6), finds_7 V d t _ (hY 7), finds_8 V d t _ (hY 8), finds_9 V d t _ (hY 9), finds_10 V d t _ (hY 10), finds_11 V d t _ (hY 11)]
  show iprop((∃ k v : Vec F S2048x1024 .f32, ⌜Good (kAt V d) t.val k ∧ Good (vAt V d) t.val v⌝
    ∗ owns (d.tc : Thread nD τ) (Memref.whole cc1_scratch0) fullShare k ∗ owns (d.tc : Thread nD τ) (Memref.whole cc1_scratch1) fullShare v) ∗ _ ∗ _) ⊢ _
  iintro ⟨⟨%k0, %v0, %hg, Hk, Hv⟩, Ho, H0, H1, H2, H3, H4, H5, H6, H7, H8, H9, H10, H11, H12⟩
  iapply (sound_kernel d Set.univ (grid1.coords t) _ _ _ _ _ _ _ _ _ _ _ _ _ _ _ _ _ _ _ _ _ _ _ _ _ _ _ _ _ _ (blk V d 0 t) (blk V d 1 t) (blk V d 2 t) (blk V d 3 t) (blk V d 4 t) (blk V d 5 t) (blk V d 6 t) (blk V d 7 t) (blk V d 8 t) (blk V d 9 t) (blk V d 10 t) (blk V d 11 t) k0 v0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists Y 12; iexact H12
  isplitl [Hk]; · iexact Hk
  isplitl [Hv]; · iexact Hv
  iintro %k %v ⟨%hp, H0, H1, H2, H3, H4, H5, H6, H7, H8, H9, H10, H11, H12, Hk, Hv⟩
  have hk : Good (kAt V d) (t.val + 1) k := good_put hg.1 hp.1
  have hv : Good (vAt V d) (t.val + 1) v := good_put hg.2 hp.2
  isplitl [Hk Hv]
  · rw [Φ_eq]
    iexists k, v
    isplitr; · ipureintro; exact ⟨hk, hv⟩
    isplitl [Hk] <;> iassumption
  isplitl [Ho]; · iexact Ho
  isplitl [H0]
  · iexists blk V d 0 t; isplitr; · ipureintro; exact rfl
    iexact H0
  isplitl [H1]
  · iexists blk V d 1 t; isplitr; · ipureintro; exact rfl
    iexact H1
  isplitl [H2]
  · iexists blk V d 2 t; isplitr; · ipureintro; exact rfl
    iexact H2
  isplitl [H3]
  · iexists blk V d 3 t; isplitr; · ipureintro; exact rfl
    iexact H3
  isplitl [H4]
  · iexists blk V d 4 t; isplitr; · ipureintro; exact rfl
    iexact H4
  isplitl [H5]
  · iexists blk V d 5 t; isplitr; · ipureintro; exact rfl
    iexact H5
  isplitl [H6]
  · iexists blk V d 6 t; isplitr; · ipureintro; exact rfl
    iexact H6
  isplitl [H7]
  · iexists blk V d 7 t; isplitr; · ipureintro; exact rfl
    iexact H7
  isplitl [H8]
  · iexists blk V d 8 t; isplitr; · ipureintro; exact rfl
    iexact H8
  isplitl [H9]
  · iexists blk V d 9 t; isplitr; · ipureintro; exact rfl
    iexact H9
  isplitl [H10]
  · iexists blk V d 10 t; isplitr; · ipureintro; exact rfl
    iexact H10
  isplitl [H11]
  · iexists blk V d 11 t; isplitr; · ipureintro; exact rfl
    iexact H11
  iexists (outB (grid1.coords t) (qAt V d t) k v (blk V d 8 t) (blk V d 9 t) (blk V d 10 t) (blk V d 11 t)); isplitr
  · ipureintro; exact ⟨k, v, hk, hv, rfl⟩
  iexact H12

/-! ## The stage as one step of @main -/

/-- The stage's settings (none: no array steers it), and its proof data. -/
abbrev adm : (q : Fin 1) → (pcfgs (F := F) q).Adm := fun q => (cfgs q).toPCfg_adm
abbrev rdats : (q : Fin 1) → (d : Dev nD) → Pipeline.RDat τ (Elt F) (HIx 1) ℕ UU ℕ (Pipeline.pin (pcfgs (F := F)) adm q) d := fun _ d => rdat V d

/-- What the core's waits have recorded is no higher than the call before left it. -/
def owesTc (d : Dev nD) : sProp 𝕄 := iprop(∃ W, ⌜(K (F := F)).WBelow (d.tc) W 8⌝ ∗ owes (d.tc) 0 W)

/-- @main's arrays after the stage: the result's replaced. -/
def outV (d : Dev nD) (G : Buf (Elt F) ((cfg1.win 12).arr.view.loc (d.tc : Thread nD τ))) : Valuation τ sig (Elt F) :=
  Function.update (V d) (Proc.devRef .tc main_v18) G

theorem outV_out (d : Dev nD) (G) : outV V d G (Proc.devRef .tc main_v18) = G := Function.update_self _ _ _
theorem outV_ne (d : Dev nD) (G) (b : Ref sig .tc) (h : b ≠ main_v18) : outV V d G (Proc.devRef .tc b) = V d (Proc.devRef .tc b) :=
  Function.update_of_ne (StableHlo.devRef_ne_of_ne h) _ _

theorem owes_in (d : Dev nD) (t : Fin (cfg1.N + 1)) : owesTc d ⊢ (rdat V d).owesAt (default : HIx 1) t := by
  unfold owesTc Pipeline.RDat.owesAt Pipeline.owesWithin
  iintro ⟨%W, %hW, HO⟩
  iexists W; isplitr
  · ipureintro; exact fun p hp => Or.inl (hW p hp)
  · iexact HO

theorem owes_out (d : Dev nD) (t : Fin (cfg1.N + 1)) : (rdat V d).owesAt (default : HIx 1) t ⊢ owesTc d := by
  unfold owesTc Pipeline.RDat.owesAt Pipeline.owesWithin
  iintro ⟨%W, %hW, HO⟩
  iexists W; isplitr
  · ipureintro
    intro p hp
    rcases hW hp with h | ⟨w, s, h⟩
    · exact h
    · rw [h]; exact Nat.zero_le _
  · iexact HO

theorem scratch_eq (d : Dev nD) : (Pipeline.scopedRest (Ix := HIx 1) (Name := ℕ) (U := UU) (Lvl := ℕ) (Val := Elt F) spec1 d : sProp 𝕄)
    = iprop((∃ f : Buf (Elt F) ((d : Thread nD τ).loc cc1_scratch0), ((d : Thread nD τ).loc cc1_scratch0) ↦{fullShare} f)
      ∗ (∃ f : Buf (Elt F) ((d : Thread nD τ).loc cc1_scratch1), ((d : Thread nD τ).loc cc1_scratch1) ↦{fullShare} f)) := scopedRest1_eq d

theorem scratch_in (d : Dev nD) : (Pipeline.scopedRest (Ix := HIx 1) (Name := ℕ) (U := UU) (Lvl := ℕ) (Val := Elt F) spec1 d : sProp 𝕄) ⊢ (rdat V d).Φ 0 := by
  rw [scratch_eq, Φ_eq]
  iintro ⟨⟨%f, Hf⟩, ⟨%g, Hg⟩⟩
  iexists f, g
  isplitr; · ipureintro; exact ⟨good_zero _ _, good_zero _ _⟩
  isplitl [Hf]
  · rw [owns_whole]; iexact Hf
  · rw [owns_whole]; iexact Hg

theorem scratch_out (d : Dev nD) (t : Fin (cfg1.N + 1)) : (rdat V d).Φ t ⊢ (Pipeline.scopedRest (Ix := HIx 1) (Name := ℕ) (U := UU) (Lvl := ℕ) (Val := Elt F) spec1 d : sProp 𝕄) := by
  rw [scratch_eq, Φ_eq]
  iintro ⟨%k, %v, -, Hk, Hv⟩
  isplitl [Hk]
  · iexists k; rw [← owns_whole]; iexact Hk
  · iexists v; rw [← owns_whole]; iexact Hv

theorem split_bufs (d : Dev nD) (B : (b : Ref sig .tc) → Buf (Elt F) ((d.tc : Thread nD τ).loc b)) :
    (unscopedBufs d B : sProp 𝕄) = iprop(Pipeline.arrBufs spec1 d B ∗ Pipeline.unscopedRest spec1 d B) :=
  Pipeline.unscopedBufs_split₀ cfgs 0 winFacts₀1.arr_unscoped d B

/-- The arrays entered with. -/
theorem arrays_in (d : Dev nD) : (Pipeline.arrBufs spec1 d (fun b => V d (Proc.devRef .tc b)) : sProp 𝕄) = (rdat V d).arrays (rdat V d).A :=
  Pipeline.RDat.arrBufs_eq_arrays (rdat V d) sharedIn1 arr_whole1 (fun _ _ => rfl) _ _ fun _ => rfl

/-- The arrays left with: the inputs' as they were, the result's at something the write-backs may leave. -/
theorem arrays_out [∀ e, Nonempty (Elt F e)] (d : Dev nD) :
    (rdat V d).arraysAt 8 ⊢ (iprop(∃ G, ⌜(rdat V d).ArrAt 12 8 G⌝ ∗ Pipeline.arrBufs spec1 d (fun b => outV V d G (Proc.devRef .tc b))) : sProp 𝕄) := by
  unfold Pipeline.RDat.arraysAt
  iintro H
  ihave H := (BI.bigSep_exists_pi Finset.univ _) $$ H
  icases H with ⟨%A, H⟩
  ihave H := (BI.bigSep_pure_sep Finset.univ (fun w => (rdat V d).ArrAt w 8 (A w)) _) $$ H
  icases H with ⟨%hA, H⟩
  iexists A 12
  isplitr; · ipureintro; exact hA 12 (Finset.mem_univ _)
  have hin : ∀ w : Fin 13, (cfg1.win w).isOut = false → A w = arrV V d w := fun w hw => by
    have h := hA w (Finset.mem_univ _)
    rw [(rdat V d).ArrAt_in w hw] at h
    exact h
  have e : ∀ w : Fin 13, A w = outV V d (A 12) (Proc.devRef .tc (arrRef spec1 w)) := fun w => by
    by_cases hw : w = 12
    · subst hw; exact (outV_out V d _).symm
    · rw [outV_ne V d _ _ ((by decide : ∀ w : Fin 13, w ≠ 12 → arrRef spec1 w ≠ main_v18) w hw)]
      exact hin w ((by decide : ∀ w : Fin 13, w ≠ 12 → (cfg1.win w).isOut = false) w hw)
  rw [Pipeline.RDat.arrBufs_eq_arrays (rdat V d) sharedIn1 arr_whole1 (fun _ _ => rfl) _ A e]
  unfold Pipeline.RDat.arrays
  iexact H

theorem rest_out (d : Dev nD) (G) : (Pipeline.unscopedRest spec1 d (fun b => V d (Proc.devRef .tc b)) : sProp 𝕄)
    = Pipeline.unscopedRest spec1 d (fun b => outV V d G (Proc.devRef .tc b)) := by
  unfold Pipeline.unscopedRest
  refine bigSep_congr fun b hb => ?_
  have h : b ≠ main_v18 := by rintro rfl; exact absurd hb (by decide)
  exact (congrArg (fun f => ((d.tc : Thread nD τ).loc b ↦{fullShare} f : sProp 𝕄)) (outV_ne V d G b h)).symm

/-- The stage, from @main's arrays at `V` to @main's arrays with the result's replaced. -/
def region [∀ e, Nonempty (Elt F e)] : Pipeline.RDat.RegionSeg (pcfgs (F := F)) adm (rdats V) (default : HIx 1) defs₀ Variants.none
    (K (F := F)).L ((K (F := F)).lev) (0 : Fin 1) where
  win := winFacts₀1
  block_pos := block_pos1
  stage_whole := stage_whole1
  K := PEmpty
  osem := fun k => k.elim
  ho := Pipeline.OwnSemFacts.none _
  hbody d := body_obligation V d
  hwaits d := (show (levAts (K (F := F)).L (K (F := F)).lev : sProp 𝕄) ⊢ emp by iintro -; iempintro).trans
    (Pipeline.RDat.cellsWaits_of_owed_zero _ _ _ _ _ fun _ => rfl)
  pre d := iprop(unscopedBufs d (fun b => V d (Proc.devRef .tc b)) ∗ owesTc d)
  post d := iprop(∃ G, ⌜(rdat V d).ArrAt 12 8 G⌝ ∗ unscopedBufs d (fun b => outV V d G (Proc.devRef .tc b)) ∗ owesTc d)
  X _ := iprop(emp)
  Y _ := iprop(emp)
  Z d := Pipeline.unscopedRest spec1 d (fun b => V d (Proc.devRef .tc b))
  hentry d := by
    rw [Pipeline.prefHeld_of_none _ rfl, split_bufs, arrays_in]
    iintro ⟨⟨⟨Ha, Hr⟩, HO⟩, -, -⟩
    imodintro
    isplitl [Ha]; · iexact Ha
    isplitr; · iempintro
    isplitl [HO]; · iapply (owes_in V d 0); iexact HO
    isplitr; · iempintro
    iexact Hr
  hin d := by
    iintro ⟨-, -, H⟩
    iapply (scratch_in V d); iexact H
  hout d := by
    rw [Pipeline.ownSems0_none]
    iintro H
    isplitr; · iempintro
    isplitr; · iempintro
    iapply (scratch_out V d _); iexact H
  hexit d := by
    iintro ⟨Ha, HO, -, Hr⟩
    imodintro
    ihave Ha := (show (rdat V d).arraysAt (Pipeline.pin (pcfgs (F := F)) adm 0).N ⊢ _ from arrays_out V d) $$ Ha
    icases Ha with ⟨%G, %hG, Ha⟩
    iexists G
    isplitr; · ipureintro; exact hG
    rw [split_bufs, ← rest_out]
    isplitl [Ha Hr]
    · isplitl [Ha] <;> iassumption
    iapply (owes_out V d _); iexact HO

theorem region_pre [∀ e, Nonempty (Elt F e)] (d : Dev nD) : (region V).pre d = iprop(unscopedBufs d (fun b => V d (Proc.devRef .tc b)) ∗ owesTc d) := rfl
theorem region_post [∀ e, Nonempty (Elt F e)] (d : Dev nD) : (region V).post d
    = iprop(∃ G, ⌜(rdat V d).ArrAt 12 8 G⌝ ∗ unscopedBufs d (fun b => outV V d G (Proc.devRef .tc b)) ∗ owesTc d) := rfl

end Cert.Proof.AttnRegion

end
-- ==== Proof.Launch.lean ====
/-
  The program's launch: what the gather's call hands each tile and gets back, @main around it and the attention stage
  after it, and the whole program's run, over any float values, with the contents of its arrays named.
-/
module

public import proofs.«01_k».proof.Proof.Split
public import proofs.«01_k».proof.Proof.AttnRegion
public import Idealize.ShloMosaic.Lib.Pipeline.Frame

@[expose] public section

noncomputable section

namespace Cert.Proof.Launch

open Cert.KernelIdeal Cert.KernelIdeal.Gen Cert.Proof.Words Cert.Proof.Pieces Cert.Proof.Setup Cert.Proof.Tile Cert.Proof.Split Cert.Proof.AttnRegion
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held)
open Idealize.ShloMosaic.Pipeline (ucRefs sub_ucRefs)

variable (m : (ℓ : Loc nD τ sig) → Buf (Elt F) ℓ) (ρ : Dev nD → PrngReg)

/-! ## What the arrays hold -/

/-- @main's operations before the call, -/
abbrev ops : List (HloOp τ sig (Elt F)) :=
  [ StableHlo.reshape main_arg1 main_v0 (rfl : (.f32 : EltTy) = .f32) shapeCasts_S32000x1024_S256000x128,
    StableHlo.reshape main_arg0 main_v1 (rfl : (.i32 : EltTy) = .i32) shapeCasts_S1x2048_S2048x1,
    StableHlo.nullary main_c (constantI S_ 32 8#32),
    StableHlo.unary main_c main_v2 (broadcastInDim S2048x1 ![] bcast_S_S2048x1 : (⟨S_, .i32⟩ : BufTy).Contents (Elt F) → (⟨S2048x1, .i32⟩ : BufTy).Contents (Elt F)),
    StableHlo.binary main_v1 main_v2 main_v3 (muli : (⟨S2048x1, .i32⟩ : BufTy).Contents (Elt F) → (⟨S2048x1, .i32⟩ : BufTy).Contents (Elt F) → (⟨S2048x1, .i32⟩ : BufTy).Contents (Elt F)),
    StableHlo.nullary main_v4 (iotaInDim S8 32 0),
    StableHlo.unary main_v4 main_v5 (broadcastInDim S1x8 ![1] bcast_S8_S1x8_1 : (⟨S8, .i32⟩ : BufTy).Contents (Elt F) → (⟨S1x8, .i32⟩ : BufTy).Contents (Elt F)),
    StableHlo.unary main_v3 main_v6 (broadcastInDim S2048x8 ![0, 1] bcast_S2048x1_S2048x8_0_1 : (⟨S2048x1, .i32⟩ : BufTy).Contents (Elt F) → (⟨S2048x8, .i32⟩ : BufTy).Contents (Elt F)),
    StableHlo.unary main_v5 main_v7 (broadcastInDim S2048x8 ![0, 1] bcast_S1x8_S2048x8_0_1 : (⟨S1x8, .i32⟩ : BufTy).Contents (Elt F) → (⟨S2048x8, .i32⟩ : BufTy).Contents (Elt F)),
    StableHlo.binary main_v6 main_v7 main_v8 (addi : (⟨S2048x8, .i32⟩ : BufTy).Contents (Elt F) → (⟨S2048x8, .i32⟩ : BufTy).Contents (Elt F) → (⟨S2048x8, .i32⟩ : BufTy).Contents (Elt F)),
    StableHlo.reshape main_v8 main_v9 (rfl : (.i32 : EltTy) = .i32) shapeCasts_S2048x8_S1x16384 ]

/-- and those between the call and the attention stage. -/
abbrev ops2 : List (HloOp τ sig (Elt F)) :=
  [ StableHlo.reshape main_v10 main_v11 (rfl : (.f32 : EltTy) = .f32) shapeCasts_S16384x128_S2048x1024,
    StableHlo.reshape main_arg3 main_v12 (rfl : (.f32 : EltTy) = .f32) shapeCasts_S1024_S1x1024,
    StableHlo.reshape main_arg5 main_v13 (rfl : (.f32 : EltTy) = .f32) shapeCasts_S1024_S1x1024,
    StableHlo.reshape main_arg7 main_v14 (rfl : (.f32 : EltTy) = .f32) shapeCasts_S1024_S1x1024,
    StableHlo.reshape main_arg9 main_v15 (rfl : (.f32 : EltTy) = .f32) shapeCasts_S1024_S1x1024,
    StableHlo.reshape main_arg10 main_v16 (rfl : (.f32 : EltTy) = .f32) shapeCasts_S1024_S1x1024,
    StableHlo.reshape main_arg11 main_v17 (rfl : (.f32 : EltTy) = .f32) shapeCasts_S1024_S1x1024 ]

theorem ops_sub : ∀ op ∈ (ops : List (HloOp τ sig (Elt F))), op.bufs ⊆ ucRefs τ sig := fun op h =>
  sub_ucRefs op ((List.forall_iff_forall_mem (p := fun op => op.bufs ⊆ StableHlo.tcRefs τ sig)).mp
    (show (ops : List (HloOp τ sig (Elt F))).Forall fun op => op.bufs ⊆ StableHlo.tcRefs τ sig from
      ⟨StableHlo.reshape_bufs_sub .., StableHlo.reshape_bufs_sub .., StableHlo.nullary_bufs_sub .., StableHlo.unary_bufs_sub .., StableHlo.binary_bufs_sub ..,
        StableHlo.nullary_bufs_sub .., StableHlo.unary_bufs_sub .., StableHlo.unary_bufs_sub .., StableHlo.unary_bufs_sub .., StableHlo.binary_bufs_sub ..,
        StableHlo.reshape_bufs_sub ..⟩) op h)
theorem ops_fresh : ∀ op ∈ (ops : List (HloOp τ sig (Elt F))), op.fresh = ∅ := by
  intro _ h; (repeat (cases h with | head => rfl | tail _ h => ?_)); exact nomatch h

theorem ops2_sub : ∀ op ∈ (ops2 : List (HloOp τ sig (Elt F))), op.bufs ⊆ ucRefs τ sig := fun op h =>
  sub_ucRefs op ((List.forall_iff_forall_mem (p := fun op => op.bufs ⊆ StableHlo.tcRefs τ sig)).mp
    (show (ops2 : List (HloOp τ sig (Elt F))).Forall fun op => op.bufs ⊆ StableHlo.tcRefs τ sig from
      ⟨StableHlo.reshape_bufs_sub .., StableHlo.reshape_bufs_sub .., StableHlo.reshape_bufs_sub .., StableHlo.reshape_bufs_sub .., StableHlo.reshape_bufs_sub ..,
        StableHlo.reshape_bufs_sub .., StableHlo.reshape_bufs_sub ..⟩) op h)
theorem ops2_fresh : ∀ op ∈ (ops2 : List (HloOp τ sig (Elt F))), op.fresh = ∅ := by
  intro _ h; (repeat (cases h with | head => rfl | tail _ h => ?_)); exact nomatch h

/-- The valuation before the call, -/
def V1 (d : Dev nD) : Valuation τ sig (Elt F) := StableHlo.after ops (StableHlo.launchContents m d)
/-- the row numbers, the table, the result's buffer as it was, -/
def fiM (d : Dev nD) : Buf (Elt F) (iLoc d) := V1 m d (Proc.devRef .tc main_v9)
def ftM (d : Dev nD) : Buf (Elt F) (tLoc d) := V1 m d (Proc.devRef .tc main_v0)
def f0M (d : Dev nD) : Buf (Elt F) (oLoc d) := V1 m d (Proc.devRef .tc main_v10)
/-- the valuation after the call, and when the attention stage is entered. -/
def V2 (d : Dev nD) : Valuation τ sig (Elt F) := Function.update (V1 m d) (Proc.devRef .tc main_v10) (gathered (ftM m d) (fiM m d))
def V3 (d : Dev nD) : Valuation τ sig (Elt F) := StableHlo.after ops2 (V2 m d)

/-! ## What the handshakes carry -/

def P : (K (F := F)).Pay (nD := nD) (Val := Elt F) (Name := ℕ) (U := UU) where
  st := fun q d c => match q with
    | 0 => bigSep Finset.univ fun i : Fin 16 => goes d (tile c i) (fiM m d) (ftM m d) (f0M m d) (shareOf c i)
  dn := fun q d c => match q with
    | 0 => bigSep Finset.univ fun i : Fin 16 => comes d (tile c i) (fiM m d) (ftM m d) (shareOf c i)
  go := fun q d c i => match q with
    | 0 => goes d (tile c i) (fiM m d) (ftM m d) (f0M m d) (shareOf c i)
  td := fun q d c i => match q with
    | 0 => comes d (tile c i) (fiM m d) (ftM m d) (shareOf c i)
  x := fun _ _ => iprop(emp)

set_option synthInstance.maxHeartbeats 400000 in
instance goes_storable (d : Dev nD) (L : grid0.Coords) (fi : Buf (Elt F) (iLoc d)) (ft : Buf (Elt F) (tLoc d)) (f0 : Buf (Elt F) (oLoc d)) (q : PosShare TreeShare) :
    BI.Storable (upEmb : UEmb _ 𝕄) (goes d L fi ft f0 q) := by
  unfold goes IB TB OB0; infer_instance
set_option synthInstance.maxHeartbeats 400000 in
instance comes_storable (d : Dev nD) (L : grid0.Coords) (fi : Buf (Elt F) (iLoc d)) (ft : Buf (Elt F) (tLoc d)) (q : PosShare TreeShare) :
    BI.Storable (upEmb : UEmb _ 𝕄) (comes d L fi ft q) := by
  unfold comes IB TB OB; infer_instance

instance P_storable : (P (F := F) m).IsStorable where
  st q d c := match q with
    | 0 => (inferInstance : BI.Storable (upEmb : UEmb _ 𝕄) (bigSep Finset.univ fun i : Fin 16 => goes d (tile c i) (fiM m d) (ftM m d) (f0M m d) (shareOf c i)))
  dn q d c := match q with
    | 0 => (inferInstance : BI.Storable (upEmb : UEmb _ 𝕄) (bigSep Finset.univ fun i : Fin 16 => comes d (tile c i) (fiM m d) (ftM m d) (shareOf c i)))
  go q d c i := match q with
    | 0 => goes_storable d (tile c i) (fiM m d) (ftM m d) (f0M m d) (shareOf c i)
  td q d c i := match q with
    | 0 => comes_storable d (tile c i) (fiM m d) (ftM m d) (shareOf c i)

/-- What the proof asks of the launch memory: every row number names a row of the table. -/
def PreOK : Prop := ∀ d : Dev nD, InRange (fiM m d)

/-! ## The tile's obligation -/

theorem defs₀_vector (c : Fin τ.nSC) (s : Fin τ.nSub) :
    defs₀ (F := F) (.scVector c s) 0 ()
      = SparseCore.onTile hcore0 hsub0 (fun c s => cc0_gather_kernel (coordsV c s) (Memref.whole main_v0_scv) (Memref.isWhole_whole _)
          (Memref.whole main_v9_scv) (Memref.isWhole_whole _) (Memref.whole main_v10_scv) (Memref.isWhole_whole _)
          (Memref.whole cc0_scoped0) (Memref.isWhole_whole _) cc0_scoped1 (Memref.whole cc0_scoped2) (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fiM m d) (ftM m d) (f0M m d) _ facts (hpre d) O W hO).trans (wp_mono frame _ _ fun _ => obl_post)

/-- The call's operands come in tiles' parts already: the sequencer passes them on. -/
theorem vecSplit : (K (F := F)).VecSplit' (P m) 0 := by
  intro d c
  show (bigSep Finset.univ fun i : Fin 16 => goes d (tile c i) (fiM m d) (ftM m d) (f0M m d) (shareOf c i)) ⊢ |={Set.univ}=> iprop(
      (bigSep Finset.univ fun i : Fin 16 => goes d (tile c i) (fiM m d) (ftM m d) (f0M m d) (shareOf c i))
      ∗ ((bigSep Finset.univ fun i : Fin 16 => comes d (tile c i) (fiM m d) (ftM m d) (shareOf c i))
          -∗ (bigSep Finset.univ fun i : Fin 16 => comes d (tile c i) (fiM m d) (ftM m d) (shareOf c i))))
  iintro H; imodintro
  isplitl [H]; · iexact H
  iintro H; iexact H

/-! ## The launch element of the ghost state -/

abbrev cells : Finset (GSem nD τ sig) := Pipeline.cells (Pipeline.pin (pcfgs (F := F)) adm) cellOf_inj
abbrev toks : Finset (GSem nD τ sig × ℕ × Unit) := Pipeline.launchToks (Pipeline.pin (pcfgs (F := F)) adm) cellOf_inj
def u₀ : UU := (initOf (K (F := F)).hsCells (K (F := F)).hsToks, (initOf (cells (F := F)) (toks (F := F)), 1))

/-- What device `d`'s core is given for the attention stage's staging transfers. -/
def stageGhost (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp {I : Type} (s : Finset I) : (bigSep s fun _ => iprop(emp)) = (iprop(emp) : sProp 𝕄) := bigSep_emp_const s

theorem pick (Φ : Fin 1 → Dev nD → sProp 𝕄) : (bigSep Finset.univ fun d : Dev nD => bigSep Finset.univ fun p => Φ p d) ⊢ bigSep Finset.univ fun d : Dev nD => Φ 0 d :=
  bigSep_mono fun _ _ => BI.bigSep_elim (Finset.mem_univ 0)

theorem hu₀ : (ownU (u₀ (F := F)) : sProp 𝕄)
    ⊢ |={Set.univ}=> iprop(BI.own (EH (initOf (K (F := F)).hsCells (K (F := F)).hsToks)) ∗ (bigSep Finset.univ fun d : Dev nD => stageGhost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (cells (F := F)) (toks (F := F)), 1) : UP × Counters)) $$ Hu
  icases H with ⟨HH, HR⟩
  ihave HR := (own_pair_emb (embR (A := UH) (B := UP × Counters)) (initOf (cells (F := F)) (toks (F := F))) (1 : Counters)) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold stageGhost
    rw [bigSep_sep']
    isplitl [Hg]
    · iapply (pick fun p d => Pipeline.cellsGhost (Pipeline.pin (pcfgs (F := F)) adm) EP p d); iexact Hg
    · iapply (pick fun p d => Pipeline.toksInit (Pipeline.pin (pcfgs (F := F)) adm) EP p d); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp]
  iempintro

/-! ## @main on the TensorCore -/

theorem st0_eq (d : Dev nD) : (bigSep Finset.univ fun c : Fin ((K (F := F)).nCore 0) => (P m).st 0 d c)
    = iprop((iLoc d ↦{fullShare} fiM m d) ∗ (tLoc d ↦{fullShare} ftM m d) ∗ oLoc d ↦{fullShare} f0M m d) := (goes_all d _ _ _).symm
theorem dn0_eq (d : Dev nD) : (bigSep Finset.univ fun c : Fin ((K (F := F)).nCore 0) => (P m).dn 0 d c)
    = iprop((iLoc d ↦{fullShare} fiM m d) ∗ (tLoc d ↦{fullShare} ftM m d) ∗ oLoc d ↦{fullShare} gathered (ftM m d) (fiM m d)) := (comes_all d _ _).symm

/-- The buffers but the call's three. -/
def rest : Finset (DevRef τ sig) :=
  (((ucRefs τ sig).erase (Proc.devRef .tc main_v9)).erase (Proc.devRef .tc main_v0)).erase (Proc.devRef .tc main_v10)

theorem mem_uc (b : Ref sig .tc) (h : b.isScoped = false) : (Proc.devRef .tc b : DevRef τ sig) ∈ ucRefs τ sig :=
  Finset.mem_filter.mpr ⟨StableHlo.devRef_mem_tcRefs b, fun h' => Bool.false_ne_true (h.symm.trans h')⟩

theorem held_call (d : Dev nD) (V : Valuation τ sig (Elt F)) : (held (T d) (ucRefs τ sig) V : sProp 𝕄)
    = iprop((iLoc d ↦{fullShare} V (Proc.devRef .tc main_v9)) ∗ (tLoc d ↦{fullShare} V (Proc.devRef .tc main_v0))
        ∗ (oLoc d ↦{fullShare} V (Proc.devRef .tc main_v10)) ∗ held (T d) rest V) := by
  unfold StableHlo.held rest
  rw [SparseCore.bigSep_erase' (mem_uc main_v9 rfl),
    SparseCore.bigSep_erase' (Finset.mem_erase.mpr ⟨StableHlo.devRef_ne_of_ne (by decide), mem_uc main_v0 rfl⟩),
    SparseCore.bigSep_erase' (Finset.mem_erase.mpr ⟨StableHlo.devRef_ne_of_ne (by decide), Finset.mem_erase.mpr ⟨StableHlo.devRef_ne_of_ne (by decide), mem_uc main_v10 rfl⟩⟩)]

theorem held_call1 (d : Dev nD) : (held d.tc (ucRefs τ sig) (StableHlo.after ops (StableHlo.launchContents m d)) : sProp 𝕄)
    = iprop((iLoc d ↦{fullShare} fiM m d) ∗ (tLoc d ↦{fullShare} ftM m d)
        ∗ (oLoc d ↦{fullShare} f0M m d) ∗ held (T d) rest (V1 m d)) := held_call d (V1 m d)

theorem held_call2 (d : Dev nD) : (held (T d) (ucRefs τ sig) (V2 m d) : sProp 𝕄)
    = iprop((iLoc d ↦{fullShare} fiM m d) ∗ (tLoc d ↦{fullShare} ftM m d)
        ∗ (oLoc d ↦{fullShare} gathered (ftM m d) (fiM m d)) ∗ held (T d) rest (V1 m d)) := by
  rw [held_call]
  have e9 : V2 m d (Proc.devRef .tc main_v9) = fiM m d := Function.update_of_ne (StableHlo.devRef_ne_of_ne (by decide)) _ _
  have e0 : V2 m d (Proc.devRef .tc main_v0) = ftM m d := Function.update_of_ne (StableHlo.devRef_ne_of_ne (by decide)) _ _
  have e10 : V2 m d (Proc.devRef .tc main_v10) = gathered (ftM m d) (fiM m d) := Function.update_self _ _ _
  rw [e9, e0, e10, StableHlo.held_congr (T d) (S := rest) (V := V2 m d) (V' := V1 m d) fun b hb =>
    Function.update_of_ne (Finset.ne_of_mem_erase hb) _ _]

/-- @main's arrays at the end: the attention stage's result at something its write-backs may leave. -/
def FIN (d : Dev nD) : sProp 𝕄 := iprop(∃ G, ⌜(rdat (V3 m) d).ArrAt 12 8 G⌝ ∗ held (T d) (ucRefs τ sig) (outV (V3 m) d G))

/-- @main: the operations before the call, the call, the operations after it, the attention stage. -/
theorem main_eq (d : Dev nD) : main (F := F) d = StableHlo.seq ops >>= fun _ => ((K (F := F)).run d 0 >>= fun _ => StableHlo.seq ops2 >>= fun _ =>
    SparseCore.liftProg (.op (.customCall (Pipeline.entry 0) ()) fun _ => .ret (⟨⟩ : PUnit)) >>= fun _ => pure ⟨⟩) := rfl

theorem bufs_eq (d : Dev nD) (W : Valuation τ sig (Elt F)) : (unscopedBufs d (fun b => W (Proc.devRef .tc b)) : sProp 𝕄) = held (T d) (ucRefs τ sig) W :=
  Pipeline.unscopedBufs_held d W

theorem owes_split (d : Dev nD) : ((K (F := F)).tcSt EH d 1 : sProp 𝕄) ⊢ iprop(owesTc d ∗ (owesTc d -∗ (K (F := F)).tcSt EH d 1)) := by
  unfold SparseCore.Cfg.tcSt owesTc
  rw [show (K (F := F)).Otc d 1 = 0 from Finset.sum_eq_zero fun q _ => if_neg (by have := q.isLt; omega)]
  iintro ⟨HO, Hr⟩
  isplitl [HO]; · iexact HO
  iintro HO
  isplitl [HO]; · iexact HO
  iexact Hr

set_option maxRecDepth 16384 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ stageGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd stageGhost
  rw [show (unscopedBufs d (fun b => m ((SparseCore.T d).loc b)) : sProp 𝕄) = held (T d) (ucRefs τ sig) (StableHlo.launchContents m d) from
    Pipeline.unscopedBufs_held d (StableHlo.launchContents m d), main_eq]
  iintro ⟨#Hctx, Hst, ⟨Hb, Hheld, Hts, -⟩, ⟨Hcg, Htk⟩⟩
  iapply (StableHlo.wp_seq 𝒱 none Set.univ d (ucRefs τ sig) _ ops ops_sub ops_fresh (StableHlo.launchContents m d)) $$ [Hb Hheld]
  · isplitl [Hb] <;> iassumption
  iintro ⟨Hb, Hheld⟩
  rw [wp_bind]
  ihave Hh := (Entails.of_eq (held_call1 (F := F) m d)) $$ Hheld
  icases Hh with ⟨Hi, Ht, Ho, Hr⟩
  iapply ((K (F := F)).wp_run (D (F := F)) 𝒱 (EH := EH) (P := P m) κ d 0) $$ [Hst Hi Ht Ho Hr Hb Hts Hcg Htk]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (StableHlo.wp_seq 𝒱 none Set.univ d (ucRefs τ sig) _ ops2 ops2_sub ops2_fresh (V2 m d)) $$ [Hb Hi Ht Ho Hr]
  · isplitl [Hb]; · iexact Hb
    rw [show (held d.tc (ucRefs τ sig) (V2 m d) : sProp 𝕄) = _ from held_call2 m d]
    isplitl [Hi]; · iexact Hi
    isplitl [Ht]; · iexact Ht
    isplitl [Ho]; · iexact Ho
    iexact Hr
  iintro ⟨Hb, Hheld⟩
  rw [wp_bind]
  ihave Hst := (show ((K (F := F)).tcSt EH d ((0 : Fin 1).val + 1) : sProp 𝕄) ⊢ _ from owes_split d) $$ Hst
  icases Hst with ⟨HO, Hst⟩
  iapply ((K (F := F)).wp_liftProg (D (F := F)) 𝒱 (SparseCore.T d) Set.univ none _ _)
  iapply (Pipeline.RDat.RegionSeg.wp (pcfgs (F := F)) adm (rdats (V3 m)) (default : HIx 1) cellOf_inj EP defs₀ 𝒱₀ (K (F := F)).L ((K (F := F)).lev)
    (region (V3 m)) d none (fun _ h => nomatch h) _ _) $$ [Hb Hheld HO Hcg Htk Hst Hts]
  isplitl [Hst Hts]
  · rw [region_post]
    iintro ⟨Hb, ⟨%G, %hG, Hbufs, HO⟩⟩
    rw [wp_ret]; imodintro
    rw [wp_pure]; imodintro
    isplitl [Hst HO]; · iapply Hst; iexact HO
    isplitl [Hbufs]
    · unfold FIN
      iexists G
      isplitr; · ipureintro; exact hG
      rw [← bufs_eq]; iexact Hbufs
    isplitl [Hb] <;> iassumption
  isplitl [Hb]; · iexact Hb
  isplitl [Hheld HO]
  · rw [region_pre]
    isplitl [Hheld]
    · rw [bufs_eq]; iexact Hheld
    iexact HO
  isplitr; · iapply (SparseCore.Cfg.ctx_levAts κ); iexact Hctx
  isplitl [Hcg] <;> iassumption

/-- What the claims read of device `d`'s final memory. -/
def fq (d : Dev nD) (s' : Phys nD τ sig (Elt F)) : Prop := ∃ G, (rdat (V3 m) d).ArrAt 12 8 G ∧ ∀ b ∈ ucRefs τ sig, s'.mem.mem (d, b) = outV (V3 m) d G b

set_option maxRecDepth 16384 in
theorem hfin (d : Dev nD) (s' : Phys nD τ sig (Elt F)) : iprop(FIN m d ∗ SI s') ⊢ (⌜fq m d s'⌝ : sProp 𝕄) := by
  unfold FIN StableHlo.held
  iintro ⟨⟨%G, %hG, Hh⟩, HSI⟩
  ihave Hr := (pointsTo_read_all (ucRefs τ sig) (fun b => ((d, b) : Loc nD τ sig)) (fun b => outV (V3 m) d G b) s') $$ [Hh HSI]
  · isplitl [Hh] <;> iassumption
  icases Hr with ⟨%h, -⟩
  ipureintro; exact ⟨G, hG, h⟩

/-! ## The run -/

/-- Every array of @main ends at the named contents, every counter at zero. -/
def QC : PUnit × MemSt nD τ sig (Elt F) → Prop := fun r =>
  (∀ c : Dev nD, ∃ G, (rdat (V3 m) c).ArrAt 12 8 G ∧ ∀ b ∈ ucRefs τ sig, r.2.mem (c, b) = outV (V3 m) c G b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main stageGhost (FIN m) (u₀ (F := F)) (sep_elim_left.trans (hu₀ m)) (hmain m ρ) (fq m) (hfin m) (QC m) (fun _ h hz => ⟨h, hz⟩)

end Cert.Proof.Launch

end
-- ==== Proof.Rows.lean ====
/-
  The rows themselves: under the precondition, the kernel's host arithmetic on the token numbers followed by the copy of
  128-wide pieces gives, at row `a` and column `b`, the table's entry at row `x[0, a]`, column `b`; and so does the
  reference's `take`.
-/
module

public import proofs.«01_k».proof.Proof.Pieces
public import proofs.«01_k».proof.Proof.Gen.ReferenceIdeal
public import proofs.«01_k».proof.Proof.Gen.Pre_tokens_in_vocab
public import Idealize.ShloMosaic.Lib.ValueIdxCore
public import Idealize.ShloMosaic.Lib.Pipeline.Value
public import Idealize.ShloMosaic.Lib.WordCmp
public import Idealize.ShloMosaic.Lib.ReduceAll

@[expose] public section

noncomputable section

namespace Cert.Proof.Rows

open Cert.KernelIdeal Cert.KernelIdeal.Gen Cert.Proof.Pieces
open Idealize.ShloMosaic Idealize.ShloMosaic.ValueIdx

variable {F : FTy → Type} [FloatOps F]

/-- Row `a` of the result is the table's row `x[0, a]` (the precondition has that below 32000, so nothing wraps). -/
def rows (x : S1x2048.Idx → BitVec 32) (e : S32000x1024.Idx → Elt F .f32) : S2048x1024.Idx → Elt F .f32 := fun j =>
  e (ix2 ⟨(x (ix2 0 (j 0))).toNat % 32000, Nat.mod_lt _ (by decide)⟩ (j 1))

/-! ## The precondition -/

/-- A word that read signed lies in [0, 32000) is so read unsigned. -/
theorem toNat_lt_of_between (w : BitVec 32) (h0 : 0 ≤ w.toInt) (h1 : w.toInt < 32000) : w.toNat < 32000 := by
  have hw := w.isLt
  rw [BitVec.toInt_eq_toNat_cond] at h0 h1
  split at h0 <;> omega

theorem toInt_of_lt (w : BitVec 32) (h : w.toNat < 32000) : w.toInt = w.toNat := by
  rw [BitVec.toInt_eq_toNat_cond, if_pos (by omega)]

/-- The precondition says that every token number is below 32000 (the twelve arguments after the table are weights it
    does not look at). -/
theorem tokens_lt (x : S1x2048.Idx → BitVec 32) (e : S32000x1024.Idx → Elt F .f32)
    (w2 : S1024x1024.Idx → Elt F .f32) (w3 : S1024.Idx → Elt F .f32) (w4 : S1024x1024.Idx → Elt F .f32) (w5 : S1024.Idx → Elt F .f32)
    (w6 : S1024x1024.Idx → Elt F .f32) (w7 : S1024.Idx → Elt F .f32) (w8 : S1024x1024.Idx → Elt F .f32) (w9 w10 w11 : S1024.Idx → Elt F .f32)
    (w12 : S32000x1024.Idx → Elt F .f32) (w13 : S32000.Idx → Elt F .f32)
    (h : Cert.Pre_tokens_in_vocab.fn (F := F) x e w2 w3 w4 w5 w6 w7 w8 w9 w10 w11 w12 w13 = fun _ => 1#1) (i : S1x2048.Idx) :
    (x i).toNat < 32000 := by
  have hi : IntOp.andi (IntOp.cmpi .sge (x i) 0#32) (IntOp.cmpi .slt (x i) 32000#32) = 1#1 := congrFun h i
  obtain ⟨hg, hl⟩ := IntOp.andi_eq_one.1 hi
  exact toNat_lt_of_between _ (by simpa using IntOp.cmpi_sge.1 hg) (by simpa using IntOp.cmpi_slt.1 hl)

/-! ## The kernel's row numbers -/

/-- The row numbers the host computes for the copy: piece `c` of token `a` is row `8 x[a] + c` of the table cut in
    pieces. -/
def pieceRows (x : S1x2048.Idx → BitVec 32) : S1x16384.Idx → BitVec 32 :=
  shapeCast S1x16384 (addi
    (broadcastInDim S2048x8 ![0, 1] bcast_S2048x1_S2048x8_0_1 (muli (shapeCast S2048x1 x shapeCasts_S1x2048_S2048x1) (broadcastInDim S2048x1 ![] bcast_S_S2048x1 (constantI S_ 32 8#32))))
    (broadcastInDim S2048x8 ![0, 1] bcast_S1x8_S2048x8_0_1 (broadcastInDim S1x8 ![1] bcast_S8_S1x8_1 (iotaInDim S8 32 0)))) shapeCasts_S2048x8_S1x16384

theorem pieceRows_word (x : S1x2048.Idx → BitVec 32) (r : Fin 16384) :
    pieceRows x (atI r) = x (ix2 0 ⟨r.val / 8, by omega⟩) * 8#32 + BitVec.ofNat 32 (r.val % 8) := by
  have hr := r.isLt
  unfold pieceRows
  rw [shapeCast_apply (k := (ix2 ⟨r.val / 8, by omega⟩ ⟨r.val % 8, by omega⟩ : S2048x8.Idx)) (hk := by
    rw [Shape.rowMajor_val_two, Shape.rowMajor_val_two]
    show r.val / 8 * 8 + r.val % 8 = 0 * 16384 + r.val; omega)]
  rw [show ∀ (p q : IVec S2048x8 32) (k : S2048x8.Idx), addi p q k = p k + q k from fun _ _ _ => rfl, broadcastInDim_apply (k := (ix2 ⟨r.val / 8, by omega⟩ 0 : S2048x1.Idx)) (hk := fun a => by
      match a with
      | ⟨0, _⟩ => rfl
      | ⟨1, _⟩ => rfl),
    broadcastInDim_apply (k := (ix2 0 ⟨r.val % 8, by omega⟩ : S1x8.Idx)) (hk := fun a => by
      match a with
      | ⟨0, _⟩ => rfl
      | ⟨1, _⟩ => rfl),
    broadcastInDim_apply (k := (ix1 ⟨r.val % 8, by omega⟩ : S8.Idx)) (hk := fun a => by
      match a with
      | ⟨0, _⟩ => rfl)]
  rw [show ∀ (p q : IVec S2048x1 32) (k : S2048x1.Idx), muli p q k = p k * q k from fun _ _ _ => rfl, shapeCast_apply (k := (ix2 0 ⟨r.val / 8, by omega⟩ : S1x2048.Idx)) (hk := by
    rw [Shape.rowMajor_val_two, Shape.rowMajor_val_two]
    show 0 * 2048 + r.val / 8 = r.val / 8 * 1 + 0; omega)]
  rfl

/-- Nothing overflows. -/
theorem pieceRows_val (x : S1x2048.Idx → BitVec 32) (hx : ∀ i, (x i).toNat < 32000) (r : Fin 16384) :
    (pieceRows x (atI r)).toNat = 8 * (x (ix2 0 ⟨r.val / 8, by omega⟩)).toNat + r.val % 8 := by
  have h := hx (ix2 0 ⟨r.val / 8, by omega⟩)
  rw [pieceRows_word]
  simp only [BitVec.toNat_add, BitVec.toNat_mul, BitVec.toNat_ofNat]
  omega

theorem pieceRows_inRange (x : S1x2048.Idx → BitVec 32) (hx : ∀ i, (x i).toNat < 32000) : InRange (pieceRows x) := fun j => by
  have h := hx (ix2 0 ⟨(j 1).val / 8, by have : (j 1).val < 16384 := (j 1).isLt; omega⟩)
  rw [show j = atI (j 1) from atI_ext rfl, pieceRows_val x hx (j 1)]
  omega

/-- The copied pieces, put together again. -/
theorem pieces_eq (x : S1x2048.Idx → BitVec 32) (e : S32000x1024.Idx → Elt F .f32) (hx : ∀ i, (x i).toNat < 32000) :
    shapeCast S2048x1024 (gathered (shapeCast S256000x128 e shapeCasts_S32000x1024_S256000x128) (pieceRows x)) shapeCasts_S16384x128_S2048x1024
      = rows x e := by
  funext j
  have h0 : (j 0).val < 2048 := (j 0).isLt
  have h1 : (j 1).val < 1024 := (j 1).isLt
  rw [shapeCast_apply (k := (ix2 ⟨(j 0).val * 8 + (j 1).val / 128, by omega⟩ ⟨(j 1).val % 128, by omega⟩ : S16384x128.Idx)) (hk := by
    rw [Shape.rowMajor_val_two, Shape.rowMajor_val_two]
    show ((j 0).val * 8 + (j 1).val / 128) * 128 + (j 1).val % 128 = (j 0).val * 1024 + (j 1).val; omega)]
  unfold gathered rows
  have hr := pieceRows_val x hx ⟨(j 0).val * 8 + (j 1).val / 128, by omega⟩
  have hj : (ix2 0 ⟨((j 0).val * 8 + (j 1).val / 128) / 8, by omega⟩ : S1x2048.Idx) = ix2 0 (j 0) := by
    funext a
    match a with
    | ⟨0, _⟩ => rfl
    | ⟨1, _⟩ => exact Fin.ext (show ((j 0).val * 8 + (j 1).val / 128) / 8 = (j 0).val by omega)
  have hb := hx (ix2 0 (j 0))
  refine shapeCast_apply _ _ _ _ ?_
  rw [Shape.rowMajor_val_two, Shape.rowMajor_val_two]
  show (x (ix2 0 (j 0))).toNat % 32000 * 1024 + (j 1).val
    = (pieceRows x (atI ⟨(j 0).val * 8 + (j 1).val / 128, by omega⟩)).toNat % 256000 * 128 + (j 1).val % 128
  rw [hr, hj]
  show (x (ix2 0 (j 0))).toNat % 32000 * 1024 + (j 1).val
    = (8 * (x (ix2 0 (j 0))).toNat + ((j 0).val * 8 + (j 1).val / 128) % 8) % 256000 * 128 + (j 1).val % 128
  clear hr hj
  generalize (x (ix2 0 (j 0))).toNat = n at hb ⊢
  generalize (j 0).val = a at h0 ⊢
  generalize (j 1).val = b at h1 ⊢
  omega

/-! ## The reference's take -/

/-- The gather of whole rows, read at `(a, b)`: the operand at row `idx[a, 0]`, read signed and clamped into the
    operand, column `b`. -/
theorem gather_rows_apply {α : Type} (e : S32000x1024.Idx → α) (idx : IVec Cert.ReferenceIdeal.S2048x1 32) (y : S2048x1024.Idx) :
    Host.gather Cert.ReferenceIdeal.gather_S32000x1024_S2048x1_S2048x1024_1_0_n_n_0_1_11024 e idx y
      = e (ix2 ⟨min (idx (ix2 (y 0) 0)).toInt.toNat 31999, by omega⟩ (y 1)) := by
  unfold Host.gather
  congr 1
  funext a
  refine Fin.ext ?_
  show Cert.ReferenceIdeal.gather_S32000x1024_S2048x1_S2048x1024_1_0_n_n_0_1_11024.start y idx a
      + Cert.ReferenceIdeal.gather_S32000x1024_S2048x1_S2048x1024_1_0_n_n_0_1_11024.batchCoord y a
      + Cert.ReferenceIdeal.gather_S32000x1024_S2048x1_S2048x1024_1_0_n_n_0_1_11024.offCoord y a = _
  rw [GatherDims.batchCoord_eq_zero _ _ _ (fun h => (List.not_mem_nil h).elim)]
  have h01 : a = 0 ∨ a = 1 := by
    rcases Nat.lt_or_ge a.val 1 with h | h
    · exact Or.inl (Fin.ext (show a.val = 0 by omega))
    · exact Or.inr (Fin.ext (show a.val = 1 by have : a.val < 2 := a.isLt; omega))
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ Cert.ReferenceIdeal.gather_S32000x1024_S2048x1_S2048x1024_1_0_n_n_0_1_11024.startIndexMap from List.mem_singleton.mpr rfl)]
    have hsi : Cert.ReferenceIdeal.gather_S32000x1024_S2048x1_S2048x1024_1_0_n_n_0_1_11024.siIdx y
        ⟨List.idxOf (0 : Fin 2) Cert.ReferenceIdeal.gather_S32000x1024_S2048x1_S2048x1024_1_0_n_n_0_1_11024.startIndexMap,
          List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  · unfold GatherDims.start
    rw [dif_neg (show (1 : Fin 2) ∉ Cert.ReferenceIdeal.gather_S32000x1024_S2048x1_S2048x1024_1_0_n_n_0_1_11024.startIndexMap from (by decide : (1 : Fin 2) ∉ ([0] : List (Fin 2))))]
    unfold GatherDims.offCoord
    rw [dif_pos ((GatherDims.mem_sKept _ _).2 ⟨(by decide : (1 : Fin 2) ∉ ([0] : List (Fin 2))), fun h => (List.not_mem_nil h).elim⟩)]
    simp only [Nat.zero_add]
    rfl

/-- The reference's row numbers: a negative one counts from the end. -/
def takeRows (x : S1x2048.Idx → BitVec 32) : IVec Cert.ReferenceIdeal.S2048x1 32 :=
  broadcastInDim Cert.ReferenceIdeal.S2048x1 ![0] Cert.ReferenceIdeal.Facts₀.bcast_S2048_S2048x1_0
    (select (cmpi .slt (shapeCast _ x Cert.ReferenceIdeal.Facts₀.shapeCasts_S1x2048_S2048) (broadcastInDim Cert.ReferenceIdeal.S2048 ![] Cert.ReferenceIdeal.Facts₀.bcast_S_S2048 (constantI Cert.ReferenceIdeal.S_ 32 0#32)))
      (addi (shapeCast _ x Cert.ReferenceIdeal.Facts₀.shapeCasts_S1x2048_S2048) (broadcastInDim Cert.ReferenceIdeal.S2048 ![] Cert.ReferenceIdeal.Facts₀.bcast_S_S2048 (constantI Cert.ReferenceIdeal.S_ 32 32000#32)))
      (shapeCast _ x Cert.ReferenceIdeal.Facts₀.shapeCasts_S1x2048_S2048))

/-- None is negative here. -/
theorem takeRows_apply (x : S1x2048.Idx → BitVec 32) (hx : ∀ i, (x i).toNat < 32000) (i : Cert.ReferenceIdeal.S2048x1.Idx) :
    takeRows x i = x (ix2 0 (i 0)) := by
  unfold takeRows
  rw [broadcastInDim_apply (k := (ix1 (i 0) : Cert.ReferenceIdeal.S2048.Idx)) (hk := fun a => by
    rw [show a = 0 from Subsingleton.elim (α := Fin 1) _ _]; rfl), select_apply]
  have hs : shapeCast Cert.ReferenceIdeal.S2048 x Cert.ReferenceIdeal.Facts₀.shapeCasts_S1x2048_S2048 (ix1 (i 0)) = x (ix2 0 (i 0)) :=
    shapeCast_apply _ _ _ _ (by
      rw [Shape.rowMajor_val_two, Shape.rowMajor_val_one]
      show 0 * 2048 + (i 0).val = (i 0).val; omega)
  have hc : cmpi .slt (shapeCast Cert.ReferenceIdeal.S2048 x Cert.ReferenceIdeal.Facts₀.shapeCasts_S1x2048_S2048) (broadcastInDim Cert.ReferenceIdeal.S2048 ![] Cert.ReferenceIdeal.Facts₀.bcast_S_S2048 (constantI Cert.ReferenceIdeal.S_ 32 0#32)) (ix1 (i 0)) = 0#1 := by
    refine eq_zero_of_ne_one fun h => ?_
    have h' : IntOp.cmpi .slt (shapeCast Cert.ReferenceIdeal.S2048 x Cert.ReferenceIdeal.Facts₀.shapeCasts_S1x2048_S2048 (ix1 (i 0))) 0#32 = 1#1 := h
    rw [hs] at h'
    have := IntOp.cmpi_slt.1 h'
    rw [toInt_of_lt _ (hx _)] at this
    simp at this
    omega
  rw [hc, select_zero, hs]

/-- The reference's result, under the precondition. -/
theorem take_eq (x : S1x2048.Idx → BitVec 32) (e : S32000x1024.Idx → Elt F .f32) (n : S2048x1024.Idx → Elt F .f32) (hx : ∀ i, (x i).toNat < 32000) :
    select (broadcastInDim Cert.ReferenceIdeal.S2048x1024 ![0] Cert.ReferenceIdeal.Facts₀.bcast_S2048_S2048x1024_0
        (Host.reduce IntOp.andi (andi (cmpi .sge (takeRows x) (broadcastInDim Cert.ReferenceIdeal.S2048x1 ![] Cert.ReferenceIdeal.Facts₀.bcast_S_S2048x1 (constantI Cert.ReferenceIdeal.S_ 32 0#32)))
          (cmpi .sle (takeRows x) (broadcastInDim Cert.ReferenceIdeal.S2048x1 ![0, 1] Cert.ReferenceIdeal.Facts₀.bcast_S1x1_S2048x1_0_1 (broadcastInDim Cert.ReferenceIdeal.S1x1 ![1] Cert.ReferenceIdeal.Facts₀.bcast_S1_S1x1_1 (constantI Cert.ReferenceIdeal.S1 32 31999#32)))))
          (constantI Cert.ReferenceIdeal.S_ 1 1#1) Cert.ReferenceIdeal.Facts₀.reducesTo_S2048x1_S2048_d1 Cert.ReferenceIdeal.Facts₀.h_S_))
      (Host.gather Cert.ReferenceIdeal.gather_S32000x1024_S2048x1_S2048x1024_1_0_n_n_0_1_11024 e (takeRows x)) n
      = rows x e := by
  funext j
  have hone : ∀ k, Host.reduce IntOp.andi (andi (cmpi .sge (takeRows x) (broadcastInDim Cert.ReferenceIdeal.S2048x1 ![] Cert.ReferenceIdeal.Facts₀.bcast_S_S2048x1 (constantI Cert.ReferenceIdeal.S_ 32 0#32)))
          (cmpi .sle (takeRows x) (broadcastInDim Cert.ReferenceIdeal.S2048x1 ![0, 1] Cert.ReferenceIdeal.Facts₀.bcast_S1x1_S2048x1_0_1 (broadcastInDim Cert.ReferenceIdeal.S1x1 ![1] Cert.ReferenceIdeal.Facts₀.bcast_S1_S1x1_1 (constantI Cert.ReferenceIdeal.S1 32 31999#32)))))
          (constantI Cert.ReferenceIdeal.S_ 1 1#1) Cert.ReferenceIdeal.Facts₀.reducesTo_S2048x1_S2048_d1 Cert.ReferenceIdeal.Facts₀.h_S_ k = 1#1 := fun k => by
    refine Host.reduce_andi_one _ _ _ _ _ rfl fun i => ?_
    refine IntOp.andi_eq_one.2 ⟨IntOp.cmpi_sge.2 ?_, IntOp.cmpi_sle.2 ?_⟩
    · rw [takeRows_apply x hx, toInt_of_lt _ (hx _)]; exact Int.natCast_nonneg _
    · rw [takeRows_apply x hx, toInt_of_lt _ (hx _)]
      have := hx (ix2 0 (i 0))
      show ((x (ix2 0 (i 0))).toNat : ℤ) ≤ (31999#32 : BitVec 32).toInt
      rw [show (31999#32 : BitVec 32).toInt = 31999 by decide]
      omega
  rw [select_apply, show ∀ v : IVec Cert.ReferenceIdeal.S2048 1, (∀ k, v k = 1#1) →
      broadcastInDim Cert.ReferenceIdeal.S2048x1024 ![0] Cert.ReferenceIdeal.Facts₀.bcast_S2048_S2048x1024_0 v j = 1#1 from fun _ h => h _, select_one,
    gather_rows_apply]
  swap; · exact hone
  unfold rows
  have hb := hx (ix2 0 (j 0))
  refine congrArg e (funext fun a => ?_)
  match a with
  | ⟨0, _⟩ =>
    refine Fin.ext ?_
    show min (takeRows x (ix2 (j 0) 0)).toInt.toNat 31999 = (x (ix2 0 (j 0))).toNat % 32000
    rw [takeRows_apply x hx, show x (ix2 0 ((ix2 (j 0) 0 : Cert.ReferenceIdeal.S2048x1.Idx) 0)) = x (ix2 0 (j 0)) from rfl, toInt_of_lt _ hb]
    omega
  | ⟨1, _⟩ => rfl

end Cert.Proof.Rows

end
-- ==== Proof.AttnMath.lean ====
/-
  Attention and layer norm over the extended reals, one row at a time: sums, greatest elements and quotients, apart from
  any program.
-/
module

public import Idealize.ShloMosaic.PureOps.Ideal
public import Mathlib.Data.EReal.Inv
public import Mathlib.Data.EReal.Operations

@[expose] public section

noncomputable section

namespace Cert.Proof.AttnMath

open Idealize.ShloMosaic
open scoped BigOperators

/-! ## Finite extended reals -/

/-- Neither infinity. -/
def Fin' (x : EReal) : Prop := ∃ r : ℝ, x = (r : EReal)

theorem fin'_of {x : EReal} (h : x ≠ ⊥) (h' : x ≠ ⊤) : Fin' x := ⟨x.toReal, (EReal.coe_toReal h' h).symm⟩
theorem Fin'.ne_bot {x : EReal} (h : Fin' x) : x ≠ ⊥ := by obtain ⟨r, rfl⟩ := h; exact EReal.coe_ne_bot r
theorem Fin'.ne_top {x : EReal} (h : Fin' x) : x ≠ ⊤ := by obtain ⟨r, rfl⟩ := h; exact EReal.coe_ne_top r
theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {ι : Type} (s : Finset ι) {f : ι → EReal} (h : ∀ i ∈ s, Fin' (f i)) : Fin' (∑ i ∈ s, f i) :=
  Finset.sum_induction f Fin' (fun _ _ => Fin'.add) Fin'.zero h

/-! ## Sums, and a factor that is a real not below zero -/

theorem sum_mul {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert i s hi ih => rw [Finset.sum_insert hi, Finset.sum_insert hi, EReal.right_distrib_of_nonneg_of_ne_top h0 h1, ih]

/-! ## Attention at one row -/

/-- The weight of a score under the greatest score `m`. -/
abbrev wt (m s : EReal) : EReal := Ideal.exp (s - m)

theorem wt_bot {m : EReal} : wt m ⊥ = 0 := by simp [wt, EReal.bot_sub]

theorem wt_real {m s : EReal} (hm : Fin' m) (hs : s ≠ ⊤) : ∃ r : ℝ, 0 ≤ r ∧ wt m s = (r : EReal) := by
  obtain ⟨a, rfl⟩ := hm
  induction s using EReal.rec with
  | bot => exact ⟨0, le_refl _, by rw [wt_bot]; rfl⟩
  | top => exact absurd rfl hs
  | coe b => exact ⟨Real.exp (b - a), (Real.exp_pos _).le, by rw [wt, ← EReal.coe_sub, Ideal.exp_coe]⟩

theorem wt_self {m : EReal} (hm : Fin' m) : wt m m = 1 := by
  obtain ⟨a, rfl⟩ := hm
  rw [wt, ← EReal.coe_sub, Ideal.exp_coe, sub_self, Real.exp_zero]; rfl

variable {n : ℕ}

/-- The greatest of the scores. -/
abbrev top (s : Fin n → EReal) : EReal := Finset.univ.sup s

/-- It is one of them, so it is finite when they are below ⊤ and one is above ⊥. -/
theorem top_fin {s : Fin n → EReal} (k : Fin n) (hk : s k ≠ ⊥) (ht : ∀ k, s k ≠ ⊤) : Fin' (top s) ∧ ∃ j, s j = top s := by
  have hj : ∃ j ∈ (Finset.univ : Finset (Fin n)), top s = s j := by
    have := Finset.exists_mem_eq_sup (Finset.univ : Finset (Fin n)) ⟨k, Finset.mem_univ k⟩ s
    exact this
  obtain ⟨j, -, e⟩ := hj
  refine ⟨fin'_of (fun h => hk (le_bot_iff.mp ?_)) (by rw [e]; exact ht j), j, e.symm⟩
  rw [← h]; exact Finset.le_sup (f := s) (Finset.mem_univ k)

/-- The sum of the weights is a positive real. -/
theorem denom_real {s : Fin n → EReal} (k : Fin n) (hk : s k ≠ ⊥) (ht : ∀ k, s k ≠ ⊤) :
    ∃ d : ℝ, 0 < d ∧ ∑ k, wt (top s) (s k) = (d : EReal) := by
  obtain ⟨hm, j, hj⟩ := top_fin k hk ht
  choose r hr0 hr using fun k => wt_real (s := s k) hm (ht k)
  refine ⟨∑ k, r k, ?_, ?_⟩
  · refine Finset.sum_pos' (fun k _ => hr0 k) ⟨j, Finset.mem_univ j, ?_⟩
    have h1 := hr j
    rw [hj, wt_self hm] at h1
    have : (1 : ℝ) = r j := by exact_mod_cast h1
    rw [← this]; exact one_pos
  · rw [Finset.sum_congr rfl fun k _ => hr k]
    exact (map_sum (⟨⟨Real.toEReal, rfl⟩, EReal.coe_add⟩ : ℝ →+ EReal) r Finset.univ).symm

/-- Dividing each weight by their sum and then summing the values is summing first and dividing once. -/
theorem attend {s v : Fin n → EReal} (k : Fin n) (hk : s k ≠ ⊥) (ht : ∀ k, s k ≠ ⊤) :
    ∑ k, Ideal.div (wt (top s) (s k)) (∑ k, wt (top s) (s k)) * v k
      = Ideal.div (∑ k, wt (top s) (s k) * v k) (∑ k, wt (top s) (s k)) := by
  obtain ⟨d, hd, e⟩ := denom_real k hk ht
  rw [e]
  have hd0 : (d : EReal) ≠ 0 := by exact_mod_cast hd.ne'
  have hi : ((d : EReal))⁻¹ = ((d⁻¹ : ℝ) : EReal) := (EReal.coe_inv d).symm
  unfold Ideal.div
  simp only [if_neg hd0]
  rw [sum_mul _ _ (by rw [hi]; exact_mod_cast (inv_pos.mpr hd).le) (by rw [hi]; exact EReal.coe_ne_top _)]
  exact Finset.sum_congr rfl fun k _ => by rw [mul_assoc, mul_comm _ (v k), ← mul_assoc]

/-! ## The layer norm's two spellings -/

theorem mul_self_nonneg' (x : EReal) : 0 ≤ x * x := by
  induction x using EReal.rec with
  | bot => rw [EReal.bot_mul_bot]; exact le_top
  | top => rw [EReal.top_mul_top]; exact le_top
  | coe b => rw [← EReal.coe_mul]; exact_mod_cast mul_self_nonneg b

/-- A division by the root is a product with the reciprocal root, above zero. -/
theorem div_sqrt {x y : EReal} (hy : 0 < y) : Ideal.div x (Ideal.sqrt y) = x * Ideal.rsqrt y := by
  induction y using EReal.rec with
  | bot => exact absurd hy (by simp)
  | top => simp [Ideal.div]
  | coe b =>
    have hb : 0 < b := by exact_mod_cast hy
    have hs : (0 : ℝ) < Real.sqrt b := Real.sqrt_pos.mpr hb
    have h0 : ((Real.sqrt b : ℝ) : EReal) ≠ 0 := by exact_mod_cast hs.ne'
    rw [Ideal.sqrt_coe, Ideal.rsqrt_coe, if_neg hb.not_gt, if_neg hb.not_gt, if_neg hb.ne', Ideal.div, if_neg h0, EReal.coe_inv]

/-! ## A row's keys, window by window -/

section Window

variable {ws : ℕ}

/-- Key `w` of the window that starts at `ws`. -/
abbrev key (hws : ws + 768 ≤ 2048) (w : Fin 768) : Fin 2048 := ⟨ws + w.val, by have := w.isLt; omega⟩

/-- What is zero outside the window and the two keys 0 and 1024 sums over the window and those of the two that lie
    before it. -/
theorem sum_window (hws : ws + 768 ≤ 2048) (f : Fin 2048 → EReal) (h : ∀ k : Fin 2048, (k.val < ws → k.val ≠ 0 ∧ k.val ≠ 1024) → (k.val < ws ∨ ws + 768 ≤ k.val) → f k = 0) :
    ∑ w : Fin 768, f (key hws w) + (if 0 < ws then f 0 else 0) + (if 1024 < ws then f 1024 else 0) = ∑ k, f k := by
  have e1 : ∑ w : Fin 768, f (key hws w) = ∑ k : Fin 2048, if ws ≤ k.val ∧ k.val < ws + 768 then f k else 0 := by
    rw [← Finset.sum_filter]
    refine Finset.sum_bij (fun w _ => key hws w) (fun w _ => ?_) (fun a _ b _ hab => ?_) (fun k hk => ?_) (fun _ _ => rfl)
    · have := w.isLt
      rw [Finset.mem_filter]; exact ⟨Finset.mem_univ _, by show ws ≤ ws + w.val; omega, by show ws + w.val < _; omega⟩
    · have := congrArg Fin.val hab
      exact Fin.ext (by change ws + a.val = ws + b.val at this; omega)
    · obtain ⟨-, h1, h2⟩ := Finset.mem_filter.mp hk
      exact ⟨⟨k.val - ws, by omega⟩, Finset.mem_univ _, Fin.ext (by show ws + (k.val - ws) = k.val; omega)⟩
  have e2 : ∀ (c : Fin 2048) (p : Prop) [Decidable p], (if p then f c else 0) = ∑ k : Fin 2048, if k = c ∧ p then f k else 0 := fun c p _ => by
    by_cases hp : p
    · simp [hp]
    · simp [hp]
  rw [e1, e2 0, e2 1024, ← Finset.sum_add_distrib, ← Finset.sum_add_distrib]
  refine Finset.sum_congr rfl fun k _ => ?_
  have hk0 : k = 0 ↔ k.val = 0 := by rw [Fin.ext_iff]; rfl
  have hk1 : k = 1024 ↔ k.val = 1024 := by rw [Fin.ext_iff]; rfl
  simp only [hk0, hk1]
  by_cases hin : ws ≤ k.val ∧ k.val < ws + 768
  · rw [if_pos hin, if_neg (by omega), if_neg (by omega), add_zero, add_zero]
  · rw [if_neg hin]
    by_cases h0 : k.val = 0 ∧ 0 < ws
    · rw [if_pos h0, if_neg (by omega), zero_add, add_zero]
    · by_cases h1 : k.val = 1024 ∧ 1024 < ws
      · rw [if_neg h0, if_pos h1, zero_add, zero_add]
      · rw [if_neg h0, if_neg h1, zero_add, zero_add, h k (by omega) (by omega)]

/-- Likewise the greatest. -/
theorem top_window (hws : ws + 768 ≤ 2048) (s : Fin 2048 → EReal) (h : ∀ k : Fin 2048, (k.val < ws → k.val ≠ 0 ∧ k.val ≠ 1024) → (k.val < ws ∨ ws + 768 ≤ k.val) → s k = ⊥) :
    max (top fun w => s (key hws w)) (max (if 0 < ws then s 0 else ⊥) (if 1024 < ws then s 1024 else ⊥)) = top s := by
  refine le_antisymm (max_le (Finset.sup_le fun w _ => Finset.le_sup (f := s) (Finset.mem_univ _)) (max_le ?_ ?_)) (Finset.sup_le fun k _ => ?_)
  · split
    · exact Finset.le_sup (f := s) (Finset.mem_univ _)
    · exact bot_le
  · split
    · exact Finset.le_sup (f := s) (Finset.mem_univ _)
    · exact bot_le
  · by_cases hin : ws ≤ k.val ∧ k.val < ws + 768
    · refine le_trans ?_ (le_max_left _ _)
      have e : k = key hws ⟨k.val - ws, by omega⟩ := Fin.ext (by show k.val = ws + (k.val - ws); omega)
      rw [e]
      exact Finset.le_sup (f := fun w => s (key hws w)) (Finset.mem_univ _)
    · by_cases h0 : k.val = 0 ∧ 0 < ws
      · have e : k = 0 := Fin.ext h0.1
        rw [e]
        refine le_trans ?_ ((le_max_left _ _).trans (le_max_right _ _))
        rw [if_pos h0.2]
      · by_cases h1 : k.val = 1024 ∧ 1024 < ws
        · have e : k = 1024 := Fin.ext h1.1
          rw [e]
          refine le_trans ?_ ((le_max_right _ _).trans (le_max_right _ _))
          rw [if_pos h1.2]
        · rw [h k (by omega) (by omega)]; exact bot_le

end Window

end Cert.Proof.AttnMath

end
-- ==== Proof.Finite.lean ====
/-
  The second precondition, read entry by entry: the token numbers are below 32000, and the table, the query's and the
  key's matrices and their biases have real entries.
-/
module

public import proofs.«01_k».proof.Pre_tokens_in_vocab_scores_finite
public import proofs.«01_k».proof.Proof.Rows
public import proofs.«01_k».proof.Proof.AttnMath
public import Idealize.ShloMosaic.Lib.ValueIdxCore
public import Idealize.ShloMosaic.Lib.WordCmp
public import Idealize.ShloMosaic.Lib.ReduceAll
public import Idealize.ShloMosaic.PureOps.Ideal

@[expose] public section

noncomputable section

namespace Cert.Proof.Finite

open Cert.Pre_tokens_in_vocab_scores_finite Cert.Proof.AttnMath
open Idealize.ShloMosaic

/-- The shape relations of the predicate's operations. -/
instance facts : Cert.Pre_tokens_in_vocab_scores_finite.Facts where
  bcast_S_S32000x1024 := by decide
  reducesTo_S32000x1024_S_d0_1 := by decide
  h_S_ := by decide
  bcast_S_S1024x1024 := by decide
  reducesTo_S1024x1024_S_d0_1 := by decide
  bcast_S_S1024 := by decide
  reducesTo_S1024_S_d0 := by decide
  bcast_S_S1x2048 := by decide

/-- A value less in size than infinity is real. -/
theorem real_of_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine fin'_of (fun hb => ?_) hlt.1.ne
  subst hb
  exact absurd hlt.2 (by simp)

instance : Subsingleton S_.Idx := ⟨fun a b => funext fun i => i.elim0⟩

/-- Every entry of an array is real if the conjunction over the whole array says so. -/
theorem all_real {s : Shape} {axes : List (Fin s.rank)} (x : FVec Ideal s .f32) (hb : S_.BroadcastsInDim s (![] : Fin 0 → Fin s.rank)) (hr : s.ReducesTo axes S_) (hu : 0 < S_.numel)
    (i0 : S_.Idx) (h : Host.reduce IntOp.andi (cmpf .olt (Host.absf x) (broadcastInDim s ![] hb (constant (F := Ideal) S_ .f32 0x7F800000#32))) (constantI S_ 1 1#1) hr hu i0 = 1#1) (i : s.Idx) :
    Fin' (x i) := real_of_lt _ (Host.reduce_andi_all _ _ _ _ i0 h i)

/-- What the predicate says. -/
structure Says (x : S1x2048.Idx → BitVec 32) (e : FVec Ideal S32000x1024 .f32) (wq : FVec Ideal S1024x1024 .f32) (bq : FVec Ideal S1024 .f32) (wk : FVec Ideal S1024x1024 .f32)
    (bk : FVec Ideal S1024 .f32) : Prop where
  tokens : ∀ i, (x i).toNat < 32000
  table : ∀ i, Fin' (e i)
  wq : ∀ i, Fin' (wq i)
  bq : ∀ i, Fin' (bq i)
  wk : ∀ i, Fin' (wk i)
  bk : ∀ i, Fin' (bk i)

theorem read (x : S1x2048.Idx → BitVec 32) (e : FVec Ideal S32000x1024 .f32) (w2 : FVec Ideal S1024x1024 .f32) (w3 : FVec Ideal S1024 .f32) (w4 : FVec Ideal S1024x1024 .f32)
    (w5 : FVec Ideal S1024 .f32) (w6 : FVec Ideal S1024x1024 .f32) (w7 : FVec Ideal S1024 .f32) (w8 : FVec Ideal S1024x1024 .f32) (w9 w10 w11 : FVec Ideal S1024 .f32)
    (w12 : FVec Ideal S32000x1024 .f32) (w13 : FVec Ideal S32000 .f32)
    (h : Cert.Pre_tokens_in_vocab_scores_finite.fn (F := Ideal) x e w2 w3 w4 w5 w6 w7 w8 w9 w10 w11 w12 w13 = fun _ => 1#1) : Says x e w2 w3 w4 w5 := by
  unfold Cert.Pre_tokens_in_vocab_scores_finite.fn Cert.Pre_tokens_in_vocab_scores_finite.fn_part1 at h
  have at_ := fun i => IntOp.andi_eq_one.1 (congrFun h i)
  have all := (at_ (ValueIdx.ix2 0 0)).2
  obtain ⟨h18, h22⟩ := IntOp.andi_eq_one.1 all
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => all_real e _ _ _ _ h3 i, fun i => all_real w2 _ _ _ _ h7 i, fun i => all_real w3 _ _ _ _ h12 i, fun i => all_real w4 _ _ _ _ h17 i, fun i => all_real w5 _ _ _ _ h22 i⟩
  obtain ⟨hg, hl⟩ := IntOp.andi_eq_one.1 (at_ i).1
  have hg' : IntOp.cmpi .sge (x i) 0#32 = 1#1 := hg
  have hl' : IntOp.cmpi .slt (x i) 32000#32 = 1#1 := hl
  exact Rows.toNat_lt_of_between _ (by simpa using IntOp.cmpi_sge.1 hg') (by simpa using IntOp.cmpi_slt.1 hl')

end Cert.Proof.Finite

end
-- ==== Proof.Same.lean ====
/-
  The two printings of the kernel are the same program: its body table, label by label.
-/
module

public import proofs.«01_k».proof.Proof.Gen.Kernel
public import proofs.«01_k».proof.Proof.Gen.KernelIdeal

@[expose] public section

set_option maxRecDepth 8192
set_option maxHeartbeats 1000000

noncomputable section

namespace Cert.Proof.Same

open Idealize.ShloMosaic

variable {F : FTy → Type} [FloatOps F]

theorem bodies : Cert.Kernel.defs₀ (F := F) = Cert.KernelIdeal.defs₀ (F := F) := by
  funext p l a
  cases p with
  | tc => match l, a with
    | 0, _ => rfl
    | 1, _ => rfl
  | scScalar c => rfl
  | scVector c s => match l, a with
    | 0, _ => rfl
    | 1, _ => rfl

theorem tables : Cert.Kernel.defs (F := F) = Cert.KernelIdeal.defs (F := F) :=
  congrArg (fun D => Cert.KernelIdeal.sc.defs (Pipeline.defs Cert.KernelIdeal.pcfgs D)) (bodies (F := F))

theorem threads : Cert.Kernel.threads (F := F) = Cert.KernelIdeal.threads (F := F) := rfl

end Cert.Proof.Same

end
-- ==== Proof.AttnSpec.lean ====
/-
  The attention stage's formula: rows of local sums, their queries, keys and values, the keys that a row attends to, the
  weighted mean of their values, the last product and the layer norm; and the same attention read through the kernel's
  window of 768 keys and its two keys 0 and 1024.
-/
module

public import proofs.«01_k».proof.Proof.AttnMath

@[expose] public section

noncomputable section

namespace Cert.Proof.AttnSpec

open Idealize.ShloMosaic Cert.Proof.AttnMath
open scoped BigOperators

abbrev Mat (a b : ℕ) : Type := Fin a → Fin b → EReal

/-- Row `r` moved down by `n`, zeros above. -/
def sh (E : Mat 2048 1024) (n : ℕ) : Mat 2048 1024 := fun r j => if n ≤ r.val then E ⟨r.val - n, by have := r.isLt; omega⟩ j else 0

/-- The sum of a row and the three before it. -/
def ctx (E : Mat 2048 1024) : Mat 2048 1024 := fun r j => E r j + sh E 1 r j + sh E 2 r j + sh E 3 r j

/-- A product with a matrix's rows, and a bias. -/
def lin {a : ℕ} (C : Mat a 1024) (W : Mat 1024 1024) (b : Fin 1024 → EReal) : Mat a 1024 := fun r i => (∑ j, C r j * W i j) + b i

/-- The factor 1/32 as the programs write it. -/
abbrev scale : EReal := Ideal.ofBits .f32 0x3D000000#32

def score {a b : ℕ} (Q : Mat a 1024) (K : Mat b 1024) : Mat a b := fun r k => (∑ i, Q r i * K k i) * scale

/-- The keys that row `r` attends to. -/
def Kept (r k : ℕ) : Prop := k ≤ r ∧ (r / 256 * 256 ≤ k + 512 ∨ k % 1024 = 0)

instance (r k : ℕ) : Decidable (Kept r k) := by unfold Kept; infer_instance

def masked (Q K : Mat 2048 1024) : Mat 2048 2048 := fun r k => if Kept r.val k.val then score Q K r k else ⊥

/-- The weighted mean of the values. -/
def att (Q K V : Mat 2048 1024) : Mat 2048 1024 := fun r d =>
  Ideal.div (∑ k, wt (top (masked Q K r)) (masked Q K r k) * V k d) (∑ k, wt (top (masked Q K r)) (masked Q K r k))

/-- The layer norm's constants as the programs write them: 1024 and 1e-5. -/
abbrev width : EReal := Ideal.ofBits .f32 0x44800000#32
abbrev eps : EReal := Ideal.ofBits .f32 0x3727C5AC#32

def mean (o : Fin 1024 → EReal) : EReal := Ideal.div (∑ j, o j) width
def var (o : Fin 1024 → EReal) : EReal := Ideal.div (∑ j, (o j - mean o) * (o j - mean o)) width
def norm (o g b : Fin 1024 → EReal) : Fin 1024 → EReal := fun j => (o j - mean o) * Ideal.rsqrt (var o + eps) * g j + b j

/-- The whole stage. -/
def stage (E : Mat 2048 1024) (Wq : Mat 1024 1024) (bq : Fin 1024 → EReal) (Wk : Mat 1024 1024) (bk : Fin 1024 → EReal) (Wv : Mat 1024 1024) (bv : Fin 1024 → EReal)
    (Wo : Mat 1024 1024) (bo g be : Fin 1024 → EReal) : Mat 2048 1024 := fun r =>
  norm (lin (att (lin (ctx E) Wq bq) (lin (ctx E) Wk bk) (lin (ctx E) Wv bv)) Wo bo r) g be

/-! ## The constants -/

theorem width_eq : width = ((1024 : ℝ) : EReal) := by
  simp [width, Ideal.ofBits, Ideal.ieee]
  rw [← EReal.coe_mul]; norm_num
theorem scale_fin : Fin' scale := by
  unfold scale Ideal.ofBits Ideal.ieee
  simp only []
  split
  · rename_i h; exact absurd h (by decide)
  · split
    · exact ⟨_, rfl⟩
    · exact ⟨_, rfl⟩
theorem eps_pos : 0 < eps := by
  simp [eps, Ideal.ofBits, Ideal.ieee]
  rw [← EReal.coe_mul]; exact_mod_cast (by positivity)
theorem ninf_eq : Ideal.ofBits .f32 0xFF800000#32 = ⊥ := by simp [Ideal.ofBits, Ideal.ieee]

/-! ## Finiteness of the scores -/

theorem sh_fin {E : Mat 2048 1024} (h : ∀ r j, Fin' (E r j)) (n : ℕ) (r j) : Fin' (sh E n r j) := by
  unfold sh; split
  · exact h _ _
  · exact Fin'.zero
theorem ctx_fin {E : Mat 2048 1024} (h : ∀ r j, Fin' (E r j)) (r j) : Fin' (ctx E r j) :=
  (((h r j).add (sh_fin h 1 r j)).add (sh_fin h 2 r j)).add (sh_fin h 3 r j)
theorem lin_fin {a : ℕ} {C : Mat a 1024} {W : Mat 1024 1024} {b : Fin 1024 → EReal} (hC : ∀ r j, Fin' (C r j)) (hW : ∀ i j, Fin' (W i j)) (hb : ∀ i, Fin' (b i)) (r i) :
    Fin' (lin C W b r i) := (Fin'.sum _ fun j _ => (hC r j).mul (hW i j)).add (hb i)
theorem score_fin {a b : ℕ} {Q : Mat a 1024} {K : Mat b 1024} (hQ : ∀ r j, Fin' (Q r j)) (hK : ∀ r j, Fin' (K r j)) (r k) : Fin' (score Q K r k) :=
  (Fin'.sum _ fun j _ => (hQ r j).mul (hK k j)).mul scale_fin

theorem kept_self (r : ℕ) : Kept r r := ⟨le_refl _, Or.inl (by have := Nat.div_mul_le_self r 256; omega)⟩

/-- The reference's order of division and sum. -/
theorem att_eq {Q K V : Mat 2048 1024} (hQ : ∀ r j, Fin' (Q r j)) (hK : ∀ r j, Fin' (K r j)) (r : Fin 2048) (d : Fin 1024) :
    ∑ k, Ideal.div (wt (top (masked Q K r)) (masked Q K r k)) (∑ k, wt (top (masked Q K r)) (masked Q K r k)) * V k d = att Q K V r d := by
  refine attend (s := masked Q K r) (v := fun k => V k d) r ?_ fun k => ?_
  · unfold masked; rw [if_pos (kept_self _)]; exact (score_fin hQ hK _ _).ne_bot
  · unfold masked; split
    · exact (score_fin hQ hK _ _).ne_top
    · exact bot_ne_top

/-! ## The kernel's window -/

section Window

variable {c : ℕ} (hc : c < 8)

theorem win_le (hc : c < 8) : 256 * c - 512 + 768 ≤ 2048 := by omega

variable (Q K V : Mat 2048 1024) (r : Fin 2048)

theorem masked_out (hr : r.val / 256 = c) (k : Fin 2048) (h : k.val < 256 * c - 512 → k.val ≠ 0 ∧ k.val ≠ 1024)
    (h' : k.val < 256 * c - 512 ∨ 256 * c - 512 + 768 ≤ k.val) : masked Q K r k = ⊥ := by
  unfold masked
  rw [if_neg]
  have hk := k.isLt
  have hrl := r.isLt
  rintro ⟨h1, h2⟩
  rw [hr] at h2
  omega

theorem masked_window (hr : r.val / 256 = c) (w : Fin 768) :
    masked Q K r (key (win_le hc) w) = if 256 * c - 512 + w.val ≤ r.val then score Q K r (key (win_le hc) w) else ⊥ := by
  unfold masked
  refine if_congr ?_ rfl rfl
  show Kept r.val (256 * c - 512 + w.val) ↔ _
  unfold Kept
  rw [hr]
  omega

theorem masked_zero (hr : r.val / 256 = c) (h : 0 < 256 * c - 512) : masked Q K r 0 = score Q K r 0 := by
  unfold masked
  rw [if_pos]
  exact ⟨Nat.zero_le _, Or.inr rfl⟩

theorem masked_1024 (hr : r.val / 256 = c) (h : 1024 < 256 * c - 512) : masked Q K r 1024 = score Q K r 1024 := by
  unfold masked
  rw [if_pos]
  exact ⟨by show 1024 ≤ r.val; omega, Or.inr rfl⟩

/-- The greatest score, the sum of the weights and the sum of the weighted values, through the window. `S` is the
    window's masked scores, `s0` and `s1` those of the two keys. -/
theorem att_window (hr : r.val / 256 = c) (d : Fin 1024) (S VW : Fin 768 → EReal) (s0 s1 v0 v1 : EReal)
    (hS : ∀ w, S w = if 256 * c - 512 + w.val ≤ r.val then score Q K r (key (win_le hc) w) else ⊥)
    (h0 : s0 = if 0 < 256 * c - 512 then score Q K r 0 else ⊥) (h1 : s1 = if 1024 < 256 * c - 512 then score Q K r 1024 else ⊥)
    (hV : ∀ w : Fin 768, 256 * c - 512 + w.val ≤ r.val → VW w = V (key (win_le hc) w) d)
    (hv0 : 0 < 256 * c - 512 → v0 = V 0 d) (hv1 : 1024 < 256 * c - 512 → v1 = V 1024 d) (m : EReal) (hm : m = max (top S) (max s0 s1)) :
    Ideal.div (∑ w, wt m (S w) * VW w + wt m s0 * v0 + wt m s1 * v1) (∑ w, wt m (S w) + wt m s0 + wt m s1) = att Q K V r d := by
  have hS' : ∀ w, S w = masked Q K r (key (win_le hc) w) := fun w => (hS w).trans (masked_window hc Q K r hr w).symm
  have h0' : s0 = if 0 < 256 * c - 512 then masked Q K r 0 else ⊥ := h0.trans (by
    split
    · rename_i h; exact (masked_zero Q K r hr h).symm
    · rfl)
  have h1' : s1 = if 1024 < 256 * c - 512 then masked Q K r 1024 else ⊥ := h1.trans (by
    split
    · rename_i h; exact (masked_1024 Q K r hr h).symm
    · rfl)
  have hm' : m = top (masked Q K r) := by
    rw [hm, h0', h1', show S = fun w => masked Q K r (key (win_le hc) w) from funext hS']
    exact top_window (win_le hc) _ (masked_out Q K r hr)
  have hd : ∑ w, wt m (S w) + wt m s0 + wt m s1 = ∑ k, wt (top (masked Q K r)) (masked Q K r k) := by
    rw [← sum_window (win_le hc) (fun k => wt (top (masked Q K r)) (masked Q K r k)) fun k h h' => by rw [masked_out Q K r hr k h h', wt_bot]]
    refine congrArg₂ (· + ·) (congrArg₂ (· + ·) (Finset.sum_congr rfl fun w _ => ?_) ?_) ?_
    · rw [hm', hS']
    · rw [hm', h0']; split
      · rfl
      · exact wt_bot
    · rw [hm', h1']; split
      · rfl
      · exact wt_bot
  have hn : ∑ w, wt m (S w) * VW w + wt m s0 * v0 + wt m s1 * v1 = ∑ k, wt (top (masked Q K r)) (masked Q K r k) * V k d := by
    rw [← sum_window (win_le hc) (fun k => wt (top (masked Q K r)) (masked Q K r k) * V k d) fun k h h' => by rw [masked_out Q K r hr k h h', wt_bot, zero_mul]]
    refine congrArg₂ (· + ·) (congrArg₂ (· + ·) (Finset.sum_congr rfl fun w _ => ?_) ?_) ?_
    · by_cases hw : 256 * c - 512 + w.val ≤ r.val
      · rw [hm', hS', hV w hw]
      · rw [← hS', hS w, if_neg hw, wt_bot, wt_bot, zero_mul, zero_mul]
    · rw [hm', h0']; split
      · rename_i h; rw [hv0 h]
      · rw [wt_bot, zero_mul]
    · rw [hm', h1']; split
      · rename_i h; rw [hv1 h]
      · rw [wt_bot, zero_mul]
  rw [hd, hn]; rfl

end Window

/-! ## The layer norm as the reference divides -/

theorem var_nonneg (o : Fin 1024 → EReal) : 0 ≤ var o := by
  unfold var
  rw [width_eq, Ideal.div, if_neg (by exact_mod_cast (by norm_num : (1024 : ℝ) ≠ 0))]
  refine mul_nonneg (Finset.sum_nonneg fun j _ => mul_self_nonneg' _) ?_
  rw [← EReal.coe_inv]; exact_mod_cast (by norm_num : (0 : ℝ) ≤ (1024 : ℝ)⁻¹)

theorem norm_eq (o g b : Fin 1024 → EReal) (j : Fin 1024) :
    Ideal.div (o j - mean o) (Ideal.sqrt (var o + eps)) * g j + b j = norm o g b j := by
  unfold norm
  rw [div_sqrt (lt_of_lt_of_le eps_pos (le_add_of_nonneg_left (var_nonneg o)))]

end Cert.Proof.AttnSpec

end
-- ==== Proof.AttnMask.lean ====
/-
  The reference's mask in words: whether key `k` is kept for row `r`, computed on 32-bit words with the rounding of
  Python's floor division and remainder, is the condition on the numbers.
-/
module

public import proofs.«01_k».proof.Proof.AttnSpec
public import Idealize.ShloMosaic.Lib.Routing.Words
public import Idealize.ShloMosaic.Lib.WordCmp
public import Idealize.ShloMosaic.Lib.ReduceAll

@[expose] public section

namespace Cert.Proof.AttnMask

open Idealize.ShloMosaic Cert.Proof.AttnSpec

/-- A word's sign. -/
abbrev sgn (w : BitVec 32) : BitVec 32 := if w = 0 then 0 else if BitVec.msb w = true then -1 else 1

/-- The first key of the window, on words: 256 times the floor quotient by 256, less 512. -/
def lo (w : BitVec 32) : BitVec 32 :=
  IntOp.subi (IntOp.muli (Scalar.select
    (IntOp.andi (IntOp.cmpi .ne (sgn w) (sgn 256#32)) (IntOp.cmpi .ne (IntOp.remsi .host w 256#32) 0#32))
    (IntOp.subi (IntOp.divsi .host w 256#32) 1#32) (IntOp.divsi .host w 256#32)) 256#32) 512#32

/-- The divisor 1024, guarded against zero. -/
abbrev guarded : BitVec 32 := Scalar.select (IntOp.cmpi .eq 1024#32 0#32) (1#32) 1024#32

/-- The remainder by 1024, on words, with the divisor's sign. -/
def md (w : BitVec 32) : BitVec 32 :=
  Scalar.select (IntOp.andi (IntOp.cmpi .ne (IntOp.cmpi .slt (IntOp.remsi .host w guarded) 0#32) (IntOp.cmpi .slt guarded 0#32)) (IntOp.cmpi .ne (IntOp.remsi .host w guarded) 0#32))
    (IntOp.addi (IntOp.remsi .host w guarded) guarded) (IntOp.remsi .host w guarded)

theorem lo_toInt : ∀ r : Fin 2048, (lo (BitVec.ofNat 32 r.val)).toInt = (r.val / 256 * 256 : ℕ) - 512 := by decide +kernel

theorem md_eq : ∀ k : Fin 2048, md (BitVec.ofNat 32 k.val) = BitVec.ofNat 32 (k.val % 1024) := by decide +kernel

theorem small_toInt (n : ℕ) (h : n < 2048) : (BitVec.ofNat 32 n).toInt = n := by
  rw [BitVec.toInt_eq_toNat_cond, BitVec.toNat_ofNat, Nat.mod_eq_of_lt (by omega), if_pos (by omega)]

theorem ori_eq_one : ∀ {a b : BitVec 1}, IntOp.ori a b = 1#1 ↔ a = 1#1 ∨ b = 1#1 := by decide +kernel

/-- The mask's bit. -/
theorem mask (r k : Fin 2048) :
    IntOp.andi (IntOp.cmpi .sle (BitVec.ofNat 32 k.val) (BitVec.ofNat 32 r.val))
      (IntOp.ori (IntOp.cmpi .sge (BitVec.ofNat 32 k.val) (lo (BitVec.ofNat 32 r.val))) (IntOp.cmpi .eq (md (BitVec.ofNat 32 k.val)) 0#32)) = 1#1
      ↔ Kept r.val k.val := by
  have hr := r.isLt
  have hk := k.isLt
  rw [IntOp.andi_eq_one, ori_eq_one, IntOp.cmpi_sle, IntOp.cmpi_sge, IntOp.cmpi_eq, small_toInt _ hr, small_toInt _ hk, lo_toInt, md_eq]
  have he : BitVec.ofNat 32 (k.val % 1024) = 0#32 ↔ k.val % 1024 = 0 :=
    ⟨fun h => by have := congrArg BitVec.toNat h; rw [BitVec.toNat_ofNat, BitVec.toNat_ofNat] at this; omega, fun h => by rw [h]⟩
  rw [he]
  unfold Kept
  omega

end Cert.Proof.AttnMask
end
-- ==== Proof.AttnRef.lean ====
/-
  The reference's result, entry by entry, is the attention stage's formula of the table's rows.
-/
module

public import proofs.«01_k».proof.Proof.Rows
public import proofs.«01_k».proof.Proof.AttnMask
public import proofs.«01_k».proof.Proof.Gen.ReferenceIdeal.Run
public import Idealize.ShloMosaic.Lib.Pointwise
public import Idealize.ShloMosaic.Lib.IdealHost
public import Idealize.ShloMosaic.Lib.KernelVsHost

@[expose] public section

set_option maxRecDepth 8192

noncomputable section

namespace Cert.Proof.AttnRef

open Cert.ReferenceIdeal Cert.ReferenceIdeal.Gen Cert.ReferenceIdeal.Value Cert.Proof.AttnMath Cert.Proof.AttnSpec Cert.Proof.AttnMask
open Idealize.ShloMosaic Idealize.ShloMosaic.StableHlo

variable (V0 : Valuation τ sig (Elt Ideal))

/-- An array's entries by row and column. -/
abbrev mat {a b : ℕ} (x : (⟨2, ![a, b]⟩ : Shape).Idx → EReal) : Mat a b := fun r j => x (ix2 r j)
abbrev vec {a : ℕ} (x : (⟨1, ![a]⟩ : Shape).Idx → EReal) : Fin a → EReal := fun j => x (ix1 j)

/-- The table's rows. -/
theorem v1_eq (hx : ∀ i, ((V0 (Proc.devRef .tc main_arg0) : S1x2048.Idx → BitVec 32) i).toNat < 32000) :
    res_main_v1 V0 = Rows.rows (V0 (Proc.devRef .tc main_arg0)) (V0 (Proc.devRef .tc main_arg1)) :=
  Rows.take_eq _ _ _ hx

abbrev E0 : Mat 2048 1024 := mat (res_main_v1 V0)
abbrev W2 : Mat 1024 1024 := mat (V0 (Proc.devRef .tc main_arg2))
abbrev W4 : Mat 1024 1024 := mat (V0 (Proc.devRef .tc main_arg4))
abbrev W6 : Mat 1024 1024 := mat (V0 (Proc.devRef .tc main_arg6))
abbrev W8 : Mat 1024 1024 := mat (V0 (Proc.devRef .tc main_arg8))
abbrev b3 : Fin 1024 → EReal := vec (V0 (Proc.devRef .tc main_arg3))
abbrev b5 : Fin 1024 → EReal := vec (V0 (Proc.devRef .tc main_arg5))
abbrev b7 : Fin 1024 → EReal := vec (V0 (Proc.devRef .tc main_arg7))
abbrev b9 : Fin 1024 → EReal := vec (V0 (Proc.devRef .tc main_arg9))
abbrev b10 : Fin 1024 → EReal := vec (V0 (Proc.devRef .tc main_arg10))
abbrev b11 : Fin 1024 → EReal := vec (V0 (Proc.devRef .tc main_arg11))
abbrev Qr : Mat 2048 1024 := lin (ctx (E0 V0)) (W2 V0) (b3 V0)
abbrev Kr : Mat 2048 1024 := lin (ctx (E0 V0)) (W4 V0) (b5 V0)
abbrev Vr : Mat 2048 1024 := lin (ctx (E0 V0)) (W6 V0) (b7 V0)

theorem zero_word : (FloatOps.sitofp (F := Ideal) FTy.f32 (0#32 : BitVec 32) : EReal) = 0 := by
  show (((0#32 : BitVec 32).toInt : ℝ) : EReal) = 0
  simp

/-- Rows moved down behind padding zeros. -/
theorem pad_sh {n m : ℕ} (hm : m + n = 2048) (x : FVec Ideal S2048x1024 .f32) (hs : S2048x1024.Slices ![0, 0] ⟨2, ![m, 1024]⟩)
    (hp : (⟨2, ![m, 1024]⟩ : Shape).Pads ![n, 0] ![0, 0] ![0, 0] S2048x1024) (r : Fin 2048) (j : Fin 1024) :
    (pad S2048x1024 ![n, 0] ![0, 0] ![0, 0] (extractStridedSlice ⟨2, ![m, 1024]⟩ ![0, 0] x hs) (sitofp (F := Ideal) .f32 (constantI S_ 32 0#32)) hp h_S_ (ix2 r j) : EReal)
      = sh (mat x) n r j := by
  have hr := r.isLt
  unfold sh
  split
  · rename_i h
    refine (pad_apply_of_inside _ _ _ _ _ _ _ _ (ix2 ⟨r.val - n, by omega⟩ j : (⟨2, ![m, 1024]⟩ : Shape).Idx) fun a => ?_).trans ?_
    · match a with
      | ⟨0, _⟩ => show r.val = n + (r.val - n) * (0 + 1); omega
      | ⟨1, _⟩ => show j.val = 0 + j.val * (0 + 1); omega
    · simp only [pointwise]
      refine congrArg x (funext fun a => Fin.ext ?_)
      match a with
      | ⟨0, _⟩ => show 0 + (r.val - n) = _; exact Nat.zero_add _
      | ⟨1, _⟩ => show 0 + j.val = _; exact Nat.zero_add _
  · rename_i h
    refine (pad_apply_of_not_inside _ _ _ _ _ _ _ _ (⟨0, by decide⟩ : Fin 2) fun hin => ?_).trans zero_word
    exact h (show n ≤ r.val from hin.1)

/-- The local sums. -/
theorem v10_eq (r : Fin 2048) (j : Fin 1024) : (res_main_v10 V0 (ix2 r j : S2048x1024.Idx) : EReal) = ctx (E0 V0) r j := by
  unfold ctx
  exact congrArg₂ (· + ·) (congrArg₂ (· + ·) (congrArg₂ (· + ·) rfl (pad_sh rfl _ _ _ r j)) (pad_sh rfl _ _ _ r j)) (pad_sh rfl _ _ _ r j)

/-- A product with a matrix's transpose, and a bias. -/
theorem lin_eq (c : FVec Ideal S2048x1024 .f32) (w : FVec Ideal S1024x1024 .f32) (b : FVec Ideal S1024 .f32) (r : Fin 2048) (i : Fin 1024) :
    (addf (Host.dotGeneral dot_S2048x1024_S1024x1024_S2048x1024_1_0_0_1_n_n none c (transpose S1024x1024 [1, 0] w transposes_S1024x1024_S1024x1024_1_0))
      (broadcastInDim S2048x1024 ![0, 1] bcast_S1x1024_S2048x1024_0_1 (broadcastInDim S1x1024 ![1] bcast_S1024_S1x1024_1 b)) (ix2 r i) : EReal)
      = lin (mat c) (mat w) (vec b) r i := by
  simp only [pointwise]
  rw [zero_add]
  rfl

theorem bit_cases : ∀ c : BitVec 1, c = 1#1 ∨ c = 0#1 := by decide +kernel

/-- A selection by a bit. -/
theorem select_bit {α : Type} (P : Prop) [Decidable P] (c : BitVec 1) (h : c = 1#1 ↔ P) (x y : α) : Scalar.select c x y = if P then x else y := by
  rcases bit_cases c with rfl | rfl
  · rw [if_pos (h.1 rfl)]; rfl
  · rw [if_neg fun hP => absurd (h.2 hP) (by decide)]; rfl

/-- The masked scores, from the queries and the keys. -/
theorem masked_eq (q k : FVec Ideal S2048x1024 .f32) (b : IVec S2048x2048 1)
    (hb : ∀ r k : Fin 2048, b (ix2 r k) = 1#1 ↔ Kept r.val k.val) (r s : Fin 2048) :
    (select b (mulf (Host.dotGeneral dot_S2048x1024_S1024x2048_S2048x2048_1_0_0_1_n_n none q (transpose S1024x2048 [1, 0] k transposes_S2048x1024_S1024x2048_1_0))
      (broadcastInDim S2048x2048 ![] bcast_S_S2048x2048 (constant (F := Ideal) S_ .f32 0x3D000000#32))) (broadcastInDim S2048x2048 ![] bcast_S_S2048x2048 (id (constant (F := Ideal) S_ .f32 0xFF800000#32))) (ix2 r s) : EReal)
      = masked (mat q) (mat k) r s := by
  refine (select_bit (Kept r.val s.val) _ (hb r s) _ _).trans ?_
  unfold masked score
  congr 1
  simp only [pointwise]
  rw [zero_add]

theorem q_eq (c : FVec Ideal S2048x1024 .f32) (C : Mat 2048 1024) (hc : mat c = C) (w : FVec Ideal S1024x1024 .f32) (b : FVec Ideal S1024 .f32) :
    mat (a := 2048) (b := 1024) (addf (Host.dotGeneral dot_S2048x1024_S1024x1024_S2048x1024_1_0_0_1_n_n none c (transpose S1024x1024 [1, 0] w transposes_S1024x1024_S1024x1024_1_0))
      (broadcastInDim S2048x1024 ![0, 1] bcast_S1x1024_S2048x1024_0_1 (broadcastInDim S1x1024 ![1] bcast_S1024_S1x1024_1 b))) = lin C (mat w) (vec b) := by
  subst hc
  funext r i
  exact lin_eq c w b r i

theorem v10_mat : mat (a := 2048) (b := 1024) (res_main_v10 V0) = ctx (E0 V0) := funext fun r => funext fun j => v10_eq V0 r j

theorem v51_eq (r k : Fin 2048) : (res_main_v51 V0 (ix2 r k : S2048x2048.Idx) : EReal) = masked (Qr V0) (Kr V0) r k := by
  have hq := q_eq (res_main_v10 V0) _ (v10_mat V0) (V0 (Proc.devRef .tc main_arg2)) (V0 (Proc.devRef .tc main_arg3))
  have hk := q_eq (res_main_v10 V0) _ (v10_mat V0) (V0 (Proc.devRef .tc main_arg4)) (V0 (Proc.devRef .tc main_arg5))
  unfold res_main_v51
  refine (masked_eq _ _ _ ?_ r k).trans (congrArg₂ (fun Q K => masked Q K r k) hq hk)
  intro r k
  simp only [pointwise]
  exact mask r k

theorem fold_top {n : ℕ} (f : Fin n → EReal) : Finset.univ.fold max ⊥ f = top f := rfl

/-- A row's greatest entry, from minus infinity. -/
theorem top_eq (x : FVec Ideal S2048x2048 .f32) (r : Fin 2048) :
    (Host.reduce (FloatOps.maximumf (F := Ideal) (φ := .f32)) x (constant (F := Ideal) S_ .f32 0xFF800000#32) reducesTo_S2048x2048_S2048_d1 h_S_ (ix1 r) : EReal) = top (fun k => x (ix2 r k)) := by
  simp only [pointwise]
  rw [ninf_eq, fold_top]

/-- A row's sum. -/
theorem sum_eq (x : FVec Ideal S2048x2048 .f32) (r : Fin 2048) :
    (Host.reduceAdd x (constant (F := Ideal) S_ .f32 0x00000000#32) reducesTo_S2048x2048_S2048_d1 h_S_ (ix1 r) : EReal) = ∑ k, x (ix2 r k) := by
  show Ideal.hostReduceAdd _ x (Ideal.ofBits .f32 0x00000000#32) (ix1 r) = _
  simp only [pointwise]
  rw [zero_add]
theorem sum_eq' (x : FVec Ideal S2048x1024 .f32) (r : Fin 2048) :
    (Host.reduceAdd x (constant (F := Ideal) S_ .f32 0x00000000#32) reducesTo_S2048x1024_S2048_d1 h_S_ (ix1 r) : EReal) = ∑ k, x (ix2 r k) := by
  show Ideal.hostReduceAdd _ x (Ideal.ofBits .f32 0x00000000#32) (ix1 r) = _
  simp only [pointwise]
  rw [zero_add]

theorem exp_eq (x : FVec Ideal S2048x2048 .f32) (m : FVec Ideal S2048 .f32) (r k : Fin 2048) :
    (Host.exp (subf x (broadcastInDim S2048x2048 ![0, 1] bcast_S2048x1_S2048x2048_0_1 (broadcastInDim S2048x1 ![0] bcast_S2048_S2048x1_0 m))) (ix2 r k) : EReal)
      = Ideal.exp (x (ix2 r k) - m (ix1 r)) := by
  simp only [pointwise]
  rfl

theorem max_eq (a b : FVec Ideal S2048 .f32) (i : S2048.Idx) : (maximumf a b i : EReal) = max (a i) (b i) := rfl

theorem v58_eq (r k : Fin 2048) : (res_main_v58 V0 (ix2 r k : S2048x2048.Idx) : EReal) = wt (top (masked (Qr V0) (Kr V0) r)) (masked (Qr V0) (Kr V0) r k) := by
  have h : (maximumf (broadcastInDim S2048 ![] bcast_S_S2048 (constant (F := Ideal) S_ .f32 0xFF800000#32)) (Host.reduce (FloatOps.maximumf (F := Ideal) (φ := .f32)) (res_main_v51 V0) (constant (F := Ideal) S_ .f32 0xFF800000#32) reducesTo_S2048x2048_S2048_d1 h_S_) (ix1 r) : EReal)
      = top (masked (Qr V0) (Kr V0) r) :=
    (max_eq _ _ _).trans ((congrArg₂ max ninf_eq ((top_eq (res_main_v51 V0) r).trans (congrArg top (funext fun k => v51_eq V0 r k)))).trans (max_eq_right bot_le))
  exact (exp_eq (res_main_v51 V0) _ r k).trans (congrArg₂ (fun a b => Ideal.exp (a - b)) (v51_eq V0 r k) h)

theorem mix_eq (p : FVec Ideal S2048x2048 .f32) (z : FVec Ideal S2048 .f32) (v : FVec Ideal S2048x1024 .f32) (r : Fin 2048) (d : Fin 1024) :
    (Host.dotGeneral dot_S2048x2048_S2048x1024_S2048x1024_1_0_0_1_n_n none (Host.divf p (broadcastInDim S2048x2048 ![0, 1] bcast_S2048x1_S2048x2048_0_1 (broadcastInDim S2048x1 ![0] bcast_S2048_S2048x1_0 z))) v (ix2 r d) : EReal)
      = ∑ k, Ideal.div (mat p r k) (z (ix1 r)) * mat v k d := by
  simp only [pointwise]
  rw [zero_add]
  rfl

theorem width_pos : (0 : EReal) < width := by rw [width_eq]; exact_mod_cast (by norm_num : (0 : ℝ) < 1024)

/-- The number of columns less the zero degrees of freedom, and its comparison with zero. -/
theorem width_sub : (Ideal.ofBits .f32 0x44800000#32 : EReal) - FloatOps.sitofp (F := Ideal) FTy.f32 (0#32 : BitVec 32) = width := by
  rw [zero_word, sub_zero]

/-- The reference's layer norm. -/
def ln (o : FVec Ideal S2048x1024 .f32) (g be : FVec Ideal S1024 .f32) : FVec Ideal S2048x1024 .bf16 :=
  truncf .bf16 (addf (mulf (Host.divf (subf o (broadcastInDim S2048x1024 ![0, 1] bcast_S2048x1_S2048x1024_0_1 (Host.divf (broadcastInDim S2048x1 ![0] bcast_S2048_S2048x1_0 (Host.reduceAdd o (constant (F := Ideal) S_ .f32 0x00000000#32) reducesTo_S2048x1024_S2048_d1 h_S_)) (broadcastInDim S2048x1 ![] bcast_S_S2048x1 (constant (F := Ideal) S_ .f32 0x44800000#32))))) (broadcastInDim S2048x1024 ![0, 1] bcast_S2048x1_S2048x1024_0_1 (Host.sqrt (addf (select (broadcastInDim S2048x1 ![] bcast_S_S2048x1 (cmpf .ogt (subf (constant (F := Ideal) S_ .f32 0x44800000#32) (sitofp (F := Ideal) .f32 (constantI S_ 32 0#32))) (constant (F := Ideal) S_ .f32 0x00000000#32))) (Host.divf (broadcastInDim S2048x1 ![0] bcast_S2048_S2048x1_0 (Host.reduceAdd (mulf (subf o (broadcastInDim S2048x1024 ![0, 1] bcast_S2048x1_S2048x1024_0_1 (Host.divf (broadcastInDim S2048x1 ![0] bcast_S2048_S2048x1_0 (Host.reduceAdd o (constant (F := Ideal) S_ .f32 0x00000000#32) reducesTo_S2048x1024_S2048_d1 h_S_)) (broadcastInDim S2048x1 ![] bcast_S_S2048x1 (constant (F := Ideal) S_ .f32 0x44800000#32))))) (subf o (broadcastInDim S2048x1024 ![0, 1] bcast_S2048x1_S2048x1024_0_1 (Host.divf (broadcastInDim S2048x1 ![0] bcast_S2048_S2048x1_0 (Host.reduceAdd o (constant (F := Ideal) S_ .f32 0x00000000#32) reducesTo_S2048x1024_S2048_d1 h_S_)) (broadcastInDim S2048x1 ![] bcast_S_S2048x1 (constant (F := Ideal) S_ .f32 0x44800000#32)))))) (constant (F := Ideal) S_ .f32 0x00000000#32) reducesTo_S2048x1024_S2048_d1 h_S_)) (broadcastInDim S2048x1 ![] bcast_S_S2048x1 (subf (constant (F := Ideal) S_ .f32 0x44800000#32) (sitofp (F := Ideal) .f32 (constantI S_ 32 0#32))))) (broadcastInDim S2048x1 ![] bcast_S_S2048x1 (id (constant (F := Ideal) S_ .f32 0x7FC00000#32)))) (broadcastInDim S2048x1 ![] bcast_S_S2048x1 (constant (F := Ideal) S_ .f32 0x3727C5AC#32)))))) (broadcastInDim S2048x1024 ![0, 1] bcast_S1x1024_S2048x1024_0_1 (broadcastInDim S1x1024 ![1] bcast_S1024_S1x1024_1 g))) (broadcastInDim S2048x1024 ![0, 1] bcast_S1x1024_S2048x1024_0_1 (broadcastInDim S1x1024 ![1] bcast_S1024_S1x1024_1 be))) bitsLt_bf16_f32

theorem ln_eq (o : FVec Ideal S2048x1024 .f32) (g be : FVec Ideal S1024 .f32) (r : Fin 2048) (j : Fin 1024) :
    (ln o g be (ix2 r j) : EReal) = norm (mat o r) (vec g) (vec be) j := by
  rw [← norm_eq]
  unfold ln
  simp only [pointwise, zero_add]
  simp only [width_sub, if_pos width_pos]
  rfl

section Fin
variable (he : ∀ r j, Fin' (E0 V0 r j)) (hWq : ∀ i j, Fin' (W2 V0 i j)) (hbq : ∀ i, Fin' (b3 V0 i)) (hWk : ∀ i j, Fin' (W4 V0 i j)) (hbk : ∀ i, Fin' (b5 V0 i))
include he hWq hbq hWk hbk

theorem v68_eq (r : Fin 2048) (i : Fin 1024) : (res_main_v68 V0 (ix2 r i : S2048x1024.Idx) : EReal) = lin (att (Qr V0) (Kr V0) (Vr V0)) (W8 V0) (b9 V0) r i := by
  refine congrFun (congrFun (q_eq _ _ ?_ (V0 (Proc.devRef .tc main_arg8)) (V0 (Proc.devRef .tc main_arg9))) r) i
  funext r d
  refine (mix_eq (res_main_v58 V0) _ _ r d).trans ?_
  rw [sum_eq, q_eq (res_main_v10 V0) _ (v10_mat V0) (V0 (Proc.devRef .tc main_arg6)) (V0 (Proc.devRef .tc main_arg7))]
  refine Eq.trans ?_ (att_eq (V := Vr V0) (lin_fin (ctx_fin he) hWq hbq) (lin_fin (ctx_fin he) hWk hbk) r d)
  refine Finset.sum_congr rfl fun k _ => congrArg (· * Vr V0 k d) (congrArg₂ Ideal.div (v58_eq V0 r k) (Finset.sum_congr rfl fun k _ => v58_eq V0 r k))

theorem result_eq (r : Fin 2048) (j : Fin 1024) :
    (ln (res_main_v68 V0) (V0 (Proc.devRef .tc main_arg10)) (V0 (Proc.devRef .tc main_arg11)) (ix2 r j : S2048x1024.Idx) : EReal)
      = stage (E0 V0) (W2 V0) (b3 V0) (W4 V0) (b5 V0) (W6 V0) (b7 V0) (W8 V0) (b9 V0) (b10 V0) (b11 V0) r j := by
  refine (ln_eq _ _ _ r j).trans (congrArg (fun o => norm o (b10 V0) (b11 V0) j) (funext fun i => v68_eq V0 he hWq hbq hWk hbk r i))

end Fin

end Cert.Proof.AttnRef
end
-- ==== Proof.AttnBlock.lean ====
/-
  The attention stage's block, entry by entry at the extended reals: the values that the body computes for a block of
  256 rows are the stage's formula at those rows.
-/
module

public import proofs.«01_k».proof.Proof.AttnBody
public import proofs.«01_k».proof.Proof.AttnSpec
public import Idealize.ShloMosaic.Lib.Pointwise
public import Idealize.ShloMosaic.Lib.IdealHost
public import Idealize.ShloMosaic.Lib.Pipeline.Value
public import Idealize.ShloMosaic.Lib.Pipeline.ValueKit.Tiles

@[expose] public section

set_option maxRecDepth 8192

noncomputable section

namespace Cert.Proof.AttnBlock

open Cert.KernelIdeal Cert.KernelIdeal.Gen Cert.Proof.AttnBody Cert.Proof.AttnMath Cert.Proof.AttnSpec
open Idealize.ShloMosaic

/-- An array's entries by row and column; a one-row array's entries. -/
abbrev mat {a b : ℕ} (x : (⟨2, ![a, b]⟩ : Shape).Idx → EReal) : Mat a b := fun r j => x (ix2 r j)
abbrev row {b : ℕ} (x : (⟨2, ![1, b]⟩ : Shape).Idx → EReal) : Fin b → EReal := fun j => x (ix2 0 j)

/-! ## Bits and words -/

theorem bit_cases : ∀ c : BitVec 1, c = 1#1 ∨ c = 0#1 := by decide +kernel

/-- A selection by a bit. -/
theorem select_bit {α : Type} (P : Prop) [Decidable P] (c : BitVec 1) (h : c = 1#1 ↔ P) (x y : α) : Scalar.select c x y = if P then x else y := by
  rcases bit_cases c with rfl | rfl
  · rw [if_pos (h.1 rfl)]; rfl
  · rw [if_neg fun hP => absurd (h.2 hP) (by decide)]; rfl

theorem toInt_small (n : ℕ) (h : n < 4096) : (BitVec.ofNat 32 n).toInt = n := by
  rw [BitVec.toInt_eq_toNat_cond, BitVec.toNat_ofNat, Nat.mod_eq_of_lt (by omega), if_pos (by omega)]

theorem addi_ofNat (a b : ℕ) : IntOp.addi (BitVec.ofNat 32 a) (BitVec.ofNat 32 b) = BitVec.ofNat 32 (a + b) := (BitVec.ofNat_add a b).symm

theorem start_word : ∀ n : Fin 8, Scalar.maxsi (Scalar.subi (Scalar.muli (BitVec.ofNat 32 n.val) 256#32) 512#32) 0#32 = BitVec.ofNat 32 (256 * n.val - 512) := by decide +kernel
theorem base_word : ∀ n : Fin 8, Scalar.muli (BitVec.ofNat 32 n.val) 256#32 = BitVec.ofNat 32 (256 * n.val) := by decide +kernel
theorem end_word : ∀ n : Fin 8, Scalar.muli (Scalar.addi (BitVec.ofNat 32 n.val) 1#32) 256#32 = BitVec.ofNat 32 (256 * (n.val + 1)) := by decide +kernel
theorem first_word : ∀ n : Fin 8, Scalar.cmpi .eq (BitVec.ofNat 32 n.val) 0#32 = 1#1 ↔ n.val = 0 := by decide +kernel
theorem past0_word : ∀ n : Fin 8, Scalar.cmpi .sgt (BitVec.ofNat 32 (256 * n.val - 512)) 0#32 = 1#1 ↔ 0 < 256 * n.val - 512 := by decide +kernel
theorem past1024_word : ∀ n : Fin 8, Scalar.cmpi .sgt (BitVec.ofNat 32 (256 * n.val - 512)) 1024#32 = 1#1 ↔ 1024 < 256 * n.val - 512 := by decide +kernel

/-- The block's number. -/
def no (i : grid1.Coords) : Fin 8 := ⟨(i 0).val, (i 0).isLt⟩

theorem blkNo_eq (i : grid1.Coords) : Scalar.muli (blkNo i) 256#32 = BitVec.ofNat 32 (256 * (no i).val) := base_word (no i)
theorem blkEnd_eq (i : grid1.Coords) : Scalar.muli (Scalar.addi (blkNo i) 1#32) 256#32 = BitVec.ofNat 32 (256 * ((no i).val + 1)) := end_word (no i)
theorem wStart_eq (i : grid1.Coords) : wStart i = BitVec.ofNat 32 (256 * (no i).val - 512) := start_word (no i)

/-! ## The block's operations, named -/

/-- A product with a matrix's rows, and a bias. -/
def proj (c : FVec Ideal S256x1024 .f32) (w : FVec Ideal S1024x1024 .f32) (b : FVec Ideal S1x1024 .f32) : FVec Ideal S256x1024 .f32 :=
  addf (matmul dot_S256x1024_S1024x1024_S256x1024_1_1_0_0_n_n none (truncf .bf16 c bitsLt_bf16_f32) (truncf .bf16 w bitsLt_bf16_f32) (constant S256x1024 .f32 0x00000000#32))
    (broadcastTo S256x1024 (shapeCast S1x1024 b shapeCasts_S1x1024_S1x1024) broadcasts_S1x1024_S256x1024)

theorem proj_eq (c : FVec Ideal S256x1024 .f32) (w : FVec Ideal S1024x1024 .f32) (b : FVec Ideal S1x1024 .f32) (p : Fin 256) (i : Fin 1024) :
    (proj c w b (ix2 p i) : EReal) = lin (mat c) (mat w) (row b) p i := by
  unfold proj
  simp only [pointwise]
  rw [zero_add]
  rfl

/-- The layer norm without its last bias. -/
def lnK (o : FVec Ideal S256x1024 .f32) (g : FVec Ideal S1x1024 .f32) : FVec Ideal S256x1024 .f32 :=
  let mu : FVec Ideal S256x1 .f32 := divf (shapeCast S256x1 (multiReduction .add [1] S256 o 0x00000000#32 reduces_S256x1024_S256 (.inl rfl) rfl) shapeCasts_S256_S256x1) (broadcast S256x1 (Scalar.ofBits .f32 0x44800000#32))
  let dev : FVec Ideal S256x1024 .f32 := subf o (broadcastTo S256x1024 mu broadcasts_S256x1_S256x1024)
  let v154 : FVec Ideal S256x1 .f32 := divf (shapeCast S256x1 (multiReduction .add [1] S256 (mulf dev dev) 0x00000000#32 reduces_S256x1024_S256 (.inl rfl) rfl) shapeCasts_S256_S256x1) (broadcast S256x1 (Scalar.ofBits .f32 0x44800000#32))
  mulf (mulf dev (broadcastTo S256x1024 (rsqrt (addf v154 (broadcast S256x1 (Scalar.ofBits .f32 0x3727C5AC#32)))) broadcasts_S256x1_S256x1024))
    (broadcastTo S256x1024 (shapeCast S1x1024 g shapeCasts_S1x1024_S1x1024) broadcasts_S1x1024_S256x1024)

theorem ln_eq (o : FVec Ideal S256x1024 .f32) (g be : FVec Ideal S1x1024 .f32) (p : Fin 256) (j : Fin 1024) :
    (k1_pay1 (lnK o g) be (ix2 p j) : EReal) = norm (mat o p) (row g) (row be) j := by
  unfold k1_pay1 lnK
  simp only [pointwise]
  rfl

/-- The weighted mean of the window's values and the two further ones. -/
def num (v67 : FVec Ideal S768x1024 .f32) (v104 v107 : FVec Ideal S1x1024 .f32) (v114 : FVec Ideal S256x768 .f32) (v116 v118 v120 : FVec Ideal S256x1 .f32) : FVec Ideal S256x1024 .f32 :=
  divf (addf (addf (matmul dot_S256x768_S768x1024_S256x1024_1_0_0_1_n_n none (truncf .bf16 v114 bitsLt_bf16_f32) (truncf .bf16 v67 bitsLt_bf16_f32) (constant S256x1024 .f32 0x00000000#32))
      (mulf (broadcastTo S256x1024 v116 broadcasts_S256x1_S256x1024) (broadcastTo S256x1024 v104 broadcasts_S1x1024_S256x1024)))
      (mulf (broadcastTo S256x1024 v118 broadcasts_S256x1_S256x1024) (broadcastTo S256x1024 v107 broadcasts_S1x1024_S256x1024)))
    (broadcastTo S256x1024 (addf (addf v120 v116) v118) broadcasts_S256x1_S256x1024)

theorem num_eq (v67 : FVec Ideal S768x1024 .f32) (v104 v107 : FVec Ideal S1x1024 .f32) (v114 : FVec Ideal S256x768 .f32) (v116 v118 v120 : FVec Ideal S256x1 .f32) (p : Fin 256) (d : Fin 1024) :
    (num v67 v104 v107 v114 v116 v118 v120 (ix2 p d) : EReal) = Ideal.div (∑ w, mat v114 p w * mat v67 w d + v116 (ix2 p 0) * row v104 d + v118 (ix2 p 0) * row v107 d) (v120 (ix2 p 0) + v116 (ix2 p 0) + v118 (ix2 p 0)) := by
  unfold num
  simp only [pointwise]
  rw [zero_add]
  rfl

theorem pay22_eq (v67 : FVec Ideal S768x1024 .f32) (v104 v107 : FVec Ideal S1x1024 .f32) (v114 : FVec Ideal S256x768 .f32) (v116 v118 v120 : FVec Ideal S256x1 .f32)
    (wo : FVec Ideal S1024x1024 .f32) (bo g : FVec Ideal S1x1024 .f32) :
    k1_pay22 (F := Ideal) v67 v104 v107 v114 v116 v118 v120 wo bo g = lnK (proj (num v67 v104 v107 v114 v116 v118 v120) wo bo) g := rfl

theorem pay3_eq (i : grid1.Coords) (x1 x0 : FVec Ideal S256x1024 .f32) (w : FVec Ideal S1024x1024 .f32) (b : FVec Ideal S1x1024 .f32) :
    k1_pay3 (F := Ideal) i x1 x0 w b = proj (k1_pay2 i x1 x0) w b := rfl
theorem pay4_eq (i : grid1.Coords) (x1 x0 : FVec Ideal S256x1024 .f32) (w : FVec Ideal S1024x1024 .f32) (b : FVec Ideal S1x1024 .f32) :
    k1_pay4 (F := Ideal) i x1 x0 w b = proj (k1_pay2 i x1 x0) w b := rfl

/-! ## The local sums -/

theorem sh_zero (E : Mat 2048 1024) (r j) : sh E 0 r j = E r j := if_pos (Nat.zero_le _)

section Sums

variable (i : grid1.Coords) (x1 x0 : FVec Ideal S256x1024 .f32) (E : Mat 2048 1024)

/-- Row `p` of the block, as a row of the whole. -/
abbrev rowOf (p : Fin 256) : Fin 2048 := ⟨256 * (no i).val + p.val, by have := (no i).isLt; omega⟩

variable (h0 : ∀ p j, (x0 (ix2 p j) : EReal) = E (rowOf i p) j)
  (h1 : (no i).val ≠ 0 → ∀ (p : Fin 256) j, ∀ s : Fin 2048, s.val + 256 = 256 * (no i).val + p.val → (x1 (ix2 p j) : EReal) = E s j)

include h0 h1

/-- A row above, in the block or in the one before it; zeros before the first block. -/
theorem part (n : ℕ) (hn : n ≤ 3) (p : Fin 256) (j : Fin 1024) {P : Prop} [Decidable P] (hP : P ↔ 256 - n + p.val < 256) (a b : P → ℕ) (a' b' : ¬ P → ℕ)
    (ha : ∀ h, a h < 256) (hb : ∀ h, b h < 1024) (ha' : ∀ h, a' h < 256) (hb' : ∀ h, b' h < 1024)
    (ea : ∀ h, a h = 256 - n + p.val) (eb : ∀ h, b h = j.val) (ea' : ∀ h, a' h = 256 - n + p.val - 256) (eb' : ∀ h, b' h = j.val) :
    (if h : P then Scalar.select (Scalar.cmpi .eq (BitVec.ofNat 32 (i 0).val) 0#32) (0 : EReal) (x1 (ix2 ⟨a h, ha h⟩ ⟨b h, hb h⟩)) else (x0 (ix2 ⟨a' h, ha' h⟩ ⟨b' h, hb' h⟩) : EReal))
      = sh E n (rowOf i p) j := by
  have hp := p.isLt
  split
  · rename_i h
    have hlt := hP.1 h
    refine (select_bit ((no i).val = 0) _ (first_word (no i)) _ _).trans ?_
    unfold sh
    split
    · rename_i hc
      rw [if_neg]
      show ¬ n ≤ 256 * (no i).val + p.val
      omega
    · rename_i hc
      rw [if_pos (show n ≤ 256 * (no i).val + p.val by omega)]
      refine (h1 hc _ _ ⟨256 * (no i).val + p.val - n, by have := (no i).isLt; omega⟩ ?_).trans ?_
      · show 256 * (no i).val + p.val - n + 256 = 256 * (no i).val + a h
        rw [ea]; omega
      · exact congrArg (E _) (Fin.ext (eb h))
  · rename_i h
    have hlt : ¬ (256 - n + p.val < 256) := fun h' => h (hP.2 h')
    unfold sh
    rw [if_pos (show n ≤ 256 * (no i).val + p.val by omega)]
    refine (h0 _ _).trans ?_
    refine congrArg₂ E (Fin.ext ?_) (Fin.ext (eb' h))
    show 256 * (no i).val + a' h = 256 * (no i).val + p.val - n
    rw [ea']; omega

theorem pay2_at (p : Fin 256) (j : Fin 1024) : (k1_pay2 (F := Ideal) i x1 x0 (ix2 p j) : EReal) = ctx E (rowOf i p) j := by
  unfold k1_pay2
  simp only [pointwise]
  unfold ctx
  rw [← sh_zero E (rowOf i p) j]
  refine congrArg₂ (· + ·) (congrArg₂ (· + ·) (congrArg₂ (· + ·) ?_ ?_) ?_) ?_
  · exact part i x1 x0 E h0 h1 0 (by decide) p j Iff.rfl _ _ _ _ _ _ _ _ (fun _ => rfl) (fun _ => Nat.zero_add _) (fun _ => rfl) (fun _ => Nat.zero_add _)
  · exact part i x1 x0 E h0 h1 1 (by decide) p j Iff.rfl _ _ _ _ _ _ _ _ (fun _ => rfl) (fun _ => Nat.zero_add _) (fun _ => rfl) (fun _ => Nat.zero_add _)
  · exact part i x1 x0 E h0 h1 2 (by decide) p j Iff.rfl _ _ _ _ _ _ _ _ (fun _ => rfl) (fun _ => Nat.zero_add _) (fun _ => rfl) (fun _ => Nat.zero_add _)
  · exact part i x1 x0 E h0 h1 3 (by decide) p j Iff.rfl _ _ _ _ _ _ _ _ (fun _ => rfl) (fun _ => Nat.zero_add _) (fun _ => rfl) (fun _ => Nat.zero_add _)

end Sums

/-! ## The scores -/

theorem pay13_at (i : grid1.Coords) (v79 : FVec Ideal S256x768 .f32) (p : Fin 256) (w : Fin 768) :
    (k1_pay13 (F := Ideal) (k1_pay10 (blkNo i)) v79 (k1_pay12 (blkNo i)) (ix2 p w) : EReal) = if 256 * (no i).val - 512 + w.val ≤ 256 * (no i).val + p.val then (v79 (ix2 p w) : EReal) else ⊥ := by
  unfold k1_pay13 k1_pay10 k1_pay12
  simp only [pointwise]
  rw [ninf_eq]
  refine select_bit _ _ ?_ _ _
  have h := (no i).isLt
  have hw := w.isLt
  have hp := p.isLt
  show IntOp.cmpi .sle (IntOp.addi (wStart i) (BitVec.ofNat 32 (0 * 768 + w.val))) (IntOp.addi (Scalar.muli (blkNo i) 256#32) (BitVec.ofNat 32 (0 * 256 + p.val))) = 1#1 ↔ _
  rw [wStart_eq, blkNo_eq, addi_ofNat, addi_ofNat, IntOp.cmpi_sle, toInt_small _ (by omega), toInt_small _ (by omega)]
  omega

theorem pay11_at (q : FVec Ideal S256x1024 .f32) (k : FVec Ideal S768x1024 .f32) (p : Fin 256) (w : Fin 768) :
    (k1_pay11 (F := Ideal) q k (ix2 p w) : EReal) = score (mat q) (mat k) p w := by
  unfold k1_pay11
  simp only [pointwise]
  rw [zero_add]
  rfl

theorem pay14_at (i : grid1.Coords) (q : FVec Ideal S256x1024 .f32) (k : FVec Ideal S1x1024 .f32) (p : Fin 256) :
    (k1_pay14 (F := Ideal) q (wStart i) k (ix2 p 0) : EReal) = if 0 < 256 * (no i).val - 512 then score (mat q) (mat k) p 0 else ⊥ := by
  unfold k1_pay14
  simp only [pointwise]
  rw [ninf_eq, wStart_eq]
  exact select_bit _ _ (past0_word (no i)) _ _

theorem pay15_at (i : grid1.Coords) (q : FVec Ideal S256x1024 .f32) (k : FVec Ideal S1x1024 .f32) (p : Fin 256) :
    (k1_pay15 (F := Ideal) q (wStart i) k (ix2 p 0) : EReal) = if 1024 < 256 * (no i).val - 512 then score (mat q) (mat k) p 0 else ⊥ := by
  unfold k1_pay15
  simp only [pointwise]
  rw [ninf_eq, wStart_eq]
  exact select_bit _ _ (past1024_word (no i)) _ _

theorem pay9_at (i : grid1.Coords) (v : FVec Ideal S768x1024 .f32) (w : Fin 768) (d : Fin 1024) :
    (k1_pay9 (F := Ideal) (blkNo i) v (ix2 w d) : EReal) = if 256 * (no i).val - 512 + w.val < 256 * ((no i).val + 1) then (v (ix2 w d) : EReal) else 0 := by
  unfold k1_pay9
  simp only [pointwise]
  refine select_bit _ _ ?_ _ _
  have h := (no i).isLt
  have hw := w.isLt
  show IntOp.cmpi .slt (IntOp.addi (wStart i) (BitVec.ofNat 32 (0 * 768 + w.val))) (Scalar.muli (Scalar.addi (blkNo i) 1#32) 256#32) = 1#1 ↔ _
  rw [wStart_eq, blkEnd_eq, addi_ofNat, IntOp.cmpi_slt, toInt_small _ (by omega), toInt_small _ (by omega)]
  omega

theorem pay16_at (i : grid1.Coords) (v : FVec Ideal S1x1024 .f32) (d : Fin 1024) (h : 1024 < 256 * (no i).val - 512) :
    (k1_pay16 (F := Ideal) (wStart i) v (ix2 0 d) : EReal) = v (ix2 0 d) := by
  unfold k1_pay16
  rw [wStart_eq]
  simp only [pointwise]
  exact (select_bit _ _ (past1024_word (no i)) _ _).trans (if_pos h)

section Weights

variable (i : grid1.Coords) (q : FVec Ideal S256x1024 .f32) (v74 : IVec S256x768 32) (v79 : FVec Ideal S256x768 .f32) (v80 : IVec S256x768 32) (k0 k1 : FVec Ideal S1x1024 .f32) (p : Fin 256)

/-- The row's greatest score. -/
abbrev topK : EReal := max (top (fun w => k1_pay13 (F := Ideal) v74 v79 v80 (ix2 p w))) (max (k1_pay14 (F := Ideal) q (wStart i) k0 (ix2 p 0)) (k1_pay15 (F := Ideal) q (wStart i) k1 (ix2 p 0)))

theorem pay17_at : (k1_pay17 (F := Ideal) q (wStart i) v74 v79 v80 k0 k1 (ix2 p 0) : EReal) = topK i q v74 v79 v80 k0 k1 p := by
  unfold k1_pay17
  simp only [pointwise]
  rw [ninf_eq]
  rfl

theorem pay18_at (w : Fin 768) : (k1_pay18 (F := Ideal) q (wStart i) v74 v79 v80 k0 k1 (ix2 p w) : EReal) = wt (topK i q v74 v79 v80 k0 k1 p) (k1_pay13 (F := Ideal) v74 v79 v80 (ix2 p w)) := by
  unfold k1_pay18
  simp only [pointwise]
  rw [← pay17_at]
  rfl

theorem pay19_at : (k1_pay19 (F := Ideal) q (wStart i) v74 v79 v80 k0 k1 (ix2 p 0) : EReal) = wt (topK i q v74 v79 v80 k0 k1 p) (k1_pay14 (F := Ideal) q (wStart i) k0 (ix2 p 0)) := by
  unfold k1_pay19
  simp only [pointwise]
  rw [← pay17_at]

theorem pay20_at : (k1_pay20 (F := Ideal) q (wStart i) v74 v79 v80 k0 k1 (ix2 p 0) : EReal) = wt (topK i q v74 v79 v80 k0 k1 p) (k1_pay15 (F := Ideal) q (wStart i) k1 (ix2 p 0)) := by
  unfold k1_pay20
  simp only [pointwise]
  rw [← pay17_at]

theorem pay21_at : (k1_pay21 (F := Ideal) q (wStart i) v74 v79 v80 k0 k1 (ix2 p 0) : EReal) = ∑ w, wt (topK i q v74 v79 v80 k0 k1 p) (k1_pay13 (F := Ideal) v74 v79 v80 (ix2 p w)) := by
  unfold k1_pay21
  simp only [pointwise]
  exact Finset.sum_congr rfl fun w _ => pay18_at i q v74 v79 v80 k0 k1 p w

end Weights

/-! ## The block of the result -/

section Block

variable (i : grid1.Coords)

/-- The window's rows. -/
theorem ld_win (x : Vec Ideal S2048x1024 .f32) (w : Fin 768) (d : Fin 1024) :
    View.ld x (rWin i) (ix2 w d) = x (ix2 (key (win_le (no i).isLt) w) d) := by
  refine View.ld_unit_apply_of x _ _ _ _ _ (fun a => ?_)
  refine Eq.trans ?_ (congrArg (· + _) (congrFun (k1_off2_eq i) a)).symm
  match a with
  | ⟨0, _⟩ => rfl
  | ⟨1, _⟩ => exact (Nat.zero_add _).symm
/-- The block's own rows. -/
theorem ld_own (x : Vec Ideal S2048x1024 .f32) (p : Fin 256) (d : Fin 1024) :
    View.ld x (rOwn i) (ix2 p d) = x (ix2 (rowOf i p) d) := by
  refine View.ld_unit_apply_of x _ _ _ _ _ (fun a => ?_)
  refine Eq.trans ?_ (congrArg (· + _) (congrFun (k1_off1_eq i) a)).symm
  match a with
  | ⟨0, _⟩ => rfl
  | ⟨1, _⟩ => exact (Nat.zero_add _).symm
theorem ld_row0 (x : Vec Ideal S2048x1024 .f32) (d : Fin 1024) : View.ld x rRow0 (ix2 0 d) = x (ix2 0 d) := by
  refine View.ld_unit_apply_of x _ _ _ _ _ (fun a => ?_)
  match a with
  | ⟨0, _⟩ => rfl
  | ⟨1, _⟩ => exact (Nat.zero_add _).symm
theorem ld_row1024 (x : Vec Ideal S2048x1024 .f32) (d : Fin 1024) : View.ld x rRow1024 (ix2 0 d) = x (ix2 1024 d) := by
  refine View.ld_unit_apply_of x _ _ _ _ _ (fun a => ?_)
  match a with
  | ⟨0, _⟩ => rfl
  | ⟨1, _⟩ => exact (Nat.zero_add _).symm

variable (Q K V : Mat 2048 1024) (q : FVec Ideal S256x1024 .f32) (k v : Vec Ideal S2048x1024 .f32)
  (hq : ∀ p d, (q (ix2 p d) : EReal) = Q (rowOf i p) d)
  (hk : ∀ s : Fin 2048, s.val < 256 * ((no i).val + 1) → ∀ d, (k (ix2 s d) : EReal) = K s d)
  (hv : ∀ s : Fin 2048, s.val < 256 * ((no i).val + 1) → ∀ d, (v (ix2 s d) : EReal) = V s d)

theorem off_zero : (![0, 0] : Fin 2 → ℕ) = fun _ => 0 := by decide

theorem score_of {a b : ℕ} (q' : Mat a 1024) (k' : Mat b 1024) (p : Fin a) (w : Fin b) (r s : Fin 2048) (h1 : ∀ d, q' p d = Q r d) (h2 : ∀ d, k' w d = K s d) :
    score q' k' p w = score Q K r s := congrArg (· * scale) (Finset.sum_congr rfl fun d _ => congrArg₂ (· * ·) (h1 d) (h2 d))

include hq hk hv

/-- The weighted means of the values. -/
theorem att_at (p : Fin 256) (d : Fin 1024) :
    (num (k1_pay9 (blkNo i) (View.ld v (rWin i))) (View.ld v rRow0) (k1_pay16 (wStart i) (View.ld v rRow1024))
      (k1_pay18 q (wStart i) (k1_pay10 (blkNo i)) (k1_pay11 q (View.ld k (rWin i))) (k1_pay12 (blkNo i)) (View.ld k rRow0) (View.ld k rRow1024))
      (k1_pay19 q (wStart i) (k1_pay10 (blkNo i)) (k1_pay11 q (View.ld k (rWin i))) (k1_pay12 (blkNo i)) (View.ld k rRow0) (View.ld k rRow1024))
      (k1_pay20 q (wStart i) (k1_pay10 (blkNo i)) (k1_pay11 q (View.ld k (rWin i))) (k1_pay12 (blkNo i)) (View.ld k rRow0) (View.ld k rRow1024))
      (k1_pay21 q (wStart i) (k1_pay10 (blkNo i)) (k1_pay11 q (View.ld k (rWin i))) (k1_pay12 (blkNo i)) (View.ld k rRow0) (View.ld k rRow1024)) (ix2 p d) : EReal)
      = att Q K V (rowOf i p) d := by
  have hp := p.isLt
  have hc := (no i).isLt
  rw [num_eq, pay19_at, pay20_at, pay21_at]
  simp only [mat, row, pay18_at]
  refine att_window hc Q K V (rowOf i p) (by show (256 * (no i).val + p.val) / 256 = _; omega) d _ _ _ _ _ _ ?_ ?_ ?_ ?_ ?_ ?_ _ rfl
  · intro w
    refine (pay13_at i _ p w).trans ?_
    show (if _ then _ else _) = if 256 * (no i).val - 512 + w.val ≤ 256 * (no i).val + p.val then _ else _
    split
    · rename_i h
      refine (pay11_at _ _ p w).trans (score_of Q K _ _ _ _ _ _ (hq p) fun d => ?_)
      exact (ld_win i k w d).trans (hk _ (by show 256 * (no i).val - 512 + w.val < _; omega) d)
    · rfl
  · refine (pay14_at i _ _ p).trans ?_
    split
    · exact score_of Q K _ _ _ _ _ _ (hq p) fun d => (ld_row0 k d).trans (hk _ (by show 0 < _; omega) d)
    · rfl
  · refine (pay15_at i _ _ p).trans ?_
    split
    · exact score_of Q K _ _ _ _ _ _ (hq p) fun d => (ld_row1024 k d).trans (hk _ (by show 1024 < _; omega) d)
    · rfl
  · intro w hw
    change 256 * (no i).val - 512 + w.val ≤ 256 * (no i).val + p.val at hw
    refine (pay9_at i _ w d).trans ?_
    rw [if_pos (by omega)]
    exact (ld_win i v w d).trans (hv _ (by show 256 * (no i).val - 512 + w.val < _; omega) d)
  · intro h
    exact (ld_row0 v d).trans (hv _ (by show 0 < _; omega) d)
  · intro h
    exact (pay16_at i _ d h).trans ((ld_row1024 v d).trans (hv _ (by show 1024 < _; omega) d))

/-- The block of the result. -/
theorem oBlk_at (wo : Vec Ideal S1024x1024 .f32) (bo g be : Vec Ideal S1x1024 .f32) (p : Fin 256) (j : Fin 1024) :
    (oBlk (F := Ideal) i q k v wo bo g be (ix2 p j) : EReal) = norm (lin (att Q K V) (mat wo) (row bo) (rowOf i p)) (row g) (row be) j := by
  unfold oBlk
  rw [pay22_eq, ln_eq]
  refine congrFun (congrArg₂ (fun o gb => norm o gb.1 gb.2) (funext fun e => ?_) (Prod.ext ?_ ?_ : (_, _) = (_, _))) j
  · refine (proj_eq _ _ _ p e).trans ?_
    refine congrArg₂ (· + ·) (Finset.sum_congr rfl fun d _ => congrArg₂ (· * ·) (att_at i Q K V q k v hq hk hv p d) ?_) ?_
    · exact congrFun (View.ld_unit_zero off_zero _ _) _
    · exact congrFun (View.ld_unit_zero off_zero _ _) _
  · funext e; exact congrFun (View.ld_unit_zero off_zero _ _) _
  · funext e; exact congrFun (View.ld_unit_zero off_zero _ _) _

end Block

/-! ## Queries, keys and values of a block -/

theorem pay7_at (x : FVec Ideal S256x1024 .f32) (p : Fin 256) (d : Fin 1024) : (k1_pay7 (F := Ideal) x (ix2 p d) : EReal) = x (ix2 p d) := by
  unfold k1_pay7
  simp only [pointwise]
theorem pay8_at (x y : FVec Ideal S256x1024 .f32) (p : Fin 256) (d : Fin 1024) : (k1_pay8 (F := Ideal) x y (ix2 p d) : EReal) = addf x y (ix2 p d) := by
  unfold k1_pay8
  simp only [pointwise]

section Lin

variable (i : grid1.Coords) (x1 x0 : Vec Ideal S256x1024 .f32) (E : Mat 2048 1024) (w : Vec Ideal S1024x1024 .f32) (b : Vec Ideal S1x1024 .f32)
  (h0 : ∀ (p : Fin 256) (j : Fin 1024), (x0 (ix2 p j) : EReal) = E (rowOf i p) j)
  (h1 : (no i).val ≠ 0 → ∀ (p : Fin 256) (j : Fin 1024), ∀ s : Fin 2048, s.val + 256 = 256 * (no i).val + p.val → (x1 (ix2 p j) : EReal) = E s j)

include h0 h1

theorem proj_at (p : Fin 256) (d : Fin 1024) :
    (proj (k1_pay2 (F := Ideal) i (View.ld x1 rX) (View.ld x0 rX)) (View.ld w rM) (View.ld b rB) (ix2 p d) : EReal) = lin (ctx E) (mat w) (row b) (rowOf i p) d := by
  refine (proj_eq _ _ _ p d).trans ?_
  refine congrArg₂ (· + ·) (Finset.sum_congr rfl fun e _ => congrArg₂ (· * ·) ?_ ?_) ?_
  · refine pay2_at i _ _ E (fun p j => ?_) (fun hc p j s hs => ?_) p e
    · exact (congrFun (View.ld_unit_zero off_zero _ _) _).trans (h0 p j)
    · exact (congrFun (View.ld_unit_zero off_zero _ _) _).trans (h1 hc p j s hs)
  · exact congrFun (View.ld_unit_zero off_zero _ _) _
  · exact congrFun (View.ld_unit_zero off_zero _ _) _

theorem qBlk_at (p : Fin 256) (d : Fin 1024) : (qBlk (F := Ideal) i x0 x1 w b (ix2 p d) : EReal) = lin (ctx E) (mat w) (row b) (rowOf i p) d :=
  proj_at i x1 x0 E w b h0 h1 p d
theorem kBlk_at (p : Fin 256) (d : Fin 1024) : (kBlk (F := Ideal) i x0 x1 w b (ix2 p d) : EReal) = lin (ctx E) (mat w) (row b) (rowOf i p) d :=
  (pay7_at _ p d).trans (proj_at i x1 x0 E w b h0 h1 p d)
theorem vBlk_at (p : Fin 256) (d : Fin 1024) : (vBlk (F := Ideal) i x0 x1 w b (ix2 p d) : EReal) = lin (ctx E) (mat w) (row b) (rowOf i p) d :=
  (pay8_at _ _ p d).trans (proj_at i x1 x0 E w b h0 h1 p d)

end Lin

end Cert.Proof.AttnBlock

end
-- ==== Proof.AttnValue.lean ====
/-
  The attention stage's result array, entry by entry at the extended reals: its eight blocks of 256 rows are the stage's
  formula, read from the arrays that the stage is entered with.
-/
module

public import proofs.«01_k».proof.Proof.AttnBlock
public import proofs.«01_k».proof.Proof.AttnRegion

@[expose] public section

set_option maxRecDepth 8192

noncomputable section

namespace Cert.Proof.AttnValue

open Cert.KernelIdeal Cert.KernelIdeal.Gen Cert.Proof.AttnBody Cert.Proof.AttnMath Cert.Proof.AttnSpec Cert.Proof.AttnBlock Cert.Proof.AttnRegion
open Idealize.ShloMosaic

variable (V : Dev nD → Valuation τ sig (Elt Ideal)) (d : Dev nD)

/-- The stage's arrays when it is entered. -/
abbrev at11 : Vec Ideal S2048x1024 .f32 := V d (Proc.devRef .tc main_v11)
abbrev w2 : Vec Ideal S1024x1024 .f32 := V d (Proc.devRef .tc main_arg2)
abbrev w4 : Vec Ideal S1024x1024 .f32 := V d (Proc.devRef .tc main_arg4)
abbrev w6 : Vec Ideal S1024x1024 .f32 := V d (Proc.devRef .tc main_arg6)
abbrev w8 : Vec Ideal S1024x1024 .f32 := V d (Proc.devRef .tc main_arg8)
abbrev r12 : Vec Ideal S1x1024 .f32 := V d (Proc.devRef .tc main_v12)
abbrev r13 : Vec Ideal S1x1024 .f32 := V d (Proc.devRef .tc main_v13)
abbrev r14 : Vec Ideal S1x1024 .f32 := V d (Proc.devRef .tc main_v14)
abbrev r15 : Vec Ideal S1x1024 .f32 := V d (Proc.devRef .tc main_v15)
abbrev r16 : Vec Ideal S1x1024 .f32 := V d (Proc.devRef .tc main_v16)
abbrev r17 : Vec Ideal S1x1024 .f32 := V d (Proc.devRef .tc main_v17)

/-- The stage's formula of them. -/
def result : Vec Ideal S2048x1024 .bf16 := fun i =>
  stage (mat (at11 V d)) (mat (w2 V d)) (row (r12 V d)) (mat (w4 V d)) (row (r13 V d)) (mat (w6 V d)) (row (r14 V d)) (mat (w8 V d)) (row (r15 V d)) (row (r16 V d)) (row (r17 V d)) (i 0) (i 1)

/-! ## The blocks of the arrays -/

theorem no_val (t : Fin grid1.N) : (no (grid1.coords t)).val = t.val := coords_val t

theorem idx0 : ∀ t : Fin grid1.N, win1_0.index t 0 = t.val ∧ win1_0.index t 1 = 0 := by decide +kernel
theorem idx1 : ∀ t : Fin grid1.N, win1_1.index t 0 = t.val - 1 ∧ win1_1.index t 1 = 0 := by decide +kernel
theorem idx12 : ∀ t : Fin grid1.N, win1_12.index t 0 = t.val ∧ win1_12.index t 1 = 0 := by decide +kernel

theorem blk0 (t : Fin grid1.N) (p : Fin 256) (j : Fin 1024) : blk V d 0 t (ix2 p j : S256x1024.Idx) = at11 V d (ix2 (rowOf (grid1.coords t) p) j) := by
  refine congrArg (at11 V d) (funext fun a => Fin.ext ?_)
  match a with
  | ⟨0, _⟩ => show win1_0.index t 0 * 256 + 1 * p.val = 256 * (no (grid1.coords t)).val + p.val; rw [(idx0 t).1, no_val]; omega
  | ⟨1, _⟩ => show win1_0.index t 1 * 1024 + 1 * j.val = j.val; rw [(idx0 t).2]; omega
theorem blk1 (t : Fin grid1.N) (ht : (no (grid1.coords t)).val ≠ 0) (p : Fin 256) (j : Fin 1024) (s : Fin 2048) (hs : s.val + 256 = 256 * (no (grid1.coords t)).val + p.val) :
    blk V d 1 t (ix2 p j : S256x1024.Idx) = at11 V d (ix2 s j) := by
  rw [no_val] at ht hs
  refine congrArg (at11 V d) (funext fun a => Fin.ext ?_)
  match a with
  | ⟨0, _⟩ => show win1_1.index t 0 * 256 + 1 * p.val = s.val; rw [(idx1 t).1]; omega
  | ⟨1, _⟩ => show win1_1.index t 1 * 1024 + 1 * j.val = j.val; rw [(idx1 t).2]; omega

theorem idx2 : ∀ t : Fin grid1.N, win1_2.index t 0 = 0 ∧ win1_2.index t 1 = 0 := by decide +kernel
theorem blk2 (t : Fin grid1.N) : (blk V d 2 t : Vec Ideal S1024x1024 .f32) = w2 V d := by
  funext x
  refine congrArg (w2 V d) (funext fun a => Fin.ext ?_)
  match a with
  | ⟨0, _⟩ => show win1_2.index t 0 * 1024 + 1 * (x 0).val = (x 0).val; rw [(idx2 t).1]; omega
  | ⟨1, _⟩ => show win1_2.index t 1 * 1024 + 1 * (x 1).val = (x 1).val; rw [(idx2 t).2]; omega
theorem idx3 : ∀ t : Fin grid1.N, win1_3.index t 0 = 0 ∧ win1_3.index t 1 = 0 := by decide +kernel
theorem blk3 (t : Fin grid1.N) : (blk V d 3 t : Vec Ideal S1x1024 .f32) = r12 V d := by
  funext x
  refine congrArg (r12 V d) (funext fun a => Fin.ext ?_)
  match a with
  | ⟨0, _⟩ => show win1_3.index t 0 * 1 + 1 * (x 0).val = (x 0).val; rw [(idx3 t).1]; omega
  | ⟨1, _⟩ => show win1_3.index t 1 * 1024 + 1 * (x 1).val = (x 1).val; rw [(idx3 t).2]; omega
theorem idx4 : ∀ t : Fin grid1.N, win1_4.index t 0 = 0 ∧ win1_4.index t 1 = 0 := by decide +kernel
theorem blk4 (t : Fin grid1.N) : (blk V d 4 t : Vec Ideal S1024x1024 .f32) = w4 V d := by
  funext x
  refine congrArg (w4 V d) (funext fun a => Fin.ext ?_)
  match a with
  | ⟨0, _⟩ => show win1_4.index t 0 * 1024 + 1 * (x 0).val = (x 0).val; rw [(idx4 t).1]; omega
  | ⟨1, _⟩ => show win1_4.index t 1 * 1024 + 1 * (x 1).val = (x 1).val; rw [(idx4 t).2]; omega
theorem idx5 : ∀ t : Fin grid1.N, win1_5.index t 0 = 0 ∧ win1_5.index t 1 = 0 := by decide +kernel
theorem blk5 (t : Fin grid1.N) : (blk V d 5 t : Vec Ideal S1x1024 .f32) = r13 V d := by
  funext x
  refine congrArg (r13 V d) (funext fun a => Fin.ext ?_)
  match a with
  | ⟨0, _⟩ => show win1_5.index t 0 * 1 + 1 * (x 0).val = (x 0).val; rw [(idx5 t).1]; omega
  | ⟨1, _⟩ => show win1_5.index t 1 * 1024 + 1 * (x 1).val = (x 1).val; rw [(idx5 t).2]; omega
theorem idx6 : ∀ t : Fin grid1.N, win1_6.index t 0 = 0 ∧ win1_6.index t 1 = 0 := by decide +kernel
theorem blk6 (t : Fin grid1.N) : (blk V d 6 t : Vec Ideal S1024x1024 .f32) = w6 V d := by
  funext x
  refine congrArg (w6 V d) (funext fun a => Fin.ext ?_)
  match a with
  | ⟨0, _⟩ => show win1_6.index t 0 * 1024 + 1 * (x 0).val = (x 0).val; rw [(idx6 t).1]; omega
  | ⟨1, _⟩ => show win1_6.index t 1 * 1024 + 1 * (x 1).val = (x 1).val; rw [(idx6 t).2]; omega
theorem idx7 : ∀ t : Fin grid1.N, win1_7.index t 0 = 0 ∧ win1_7.index t 1 = 0 := by decide +kernel
theorem blk7 (t : Fin grid1.N) : (blk V d 7 t : Vec Ideal S1x1024 .f32) = r14 V d := by
  funext x
  refine congrArg (r14 V d) (funext fun a => Fin.ext ?_)
  match a with
  | ⟨0, _⟩ => show win1_7.index t 0 * 1 + 1 * (x 0).val = (x 0).val; rw [(idx7 t).1]; omega
  | ⟨1, _⟩ => show win1_7.index t 1 * 1024 + 1 * (x 1).val = (x 1).val; rw [(idx7 t).2]; omega
theorem idx8 : ∀ t : Fin grid1.N, win1_8.index t 0 = 0 ∧ win1_8.index t 1 = 0 := by decide +kernel
theorem blk8 (t : Fin grid1.N) : (blk V d 8 t : Vec Ideal S1024x1024 .f32) = w8 V d := by
  funext x
  refine congrArg (w8 V d) (funext fun a => Fin.ext ?_)
  match a with
  | ⟨0, _⟩ => show win1_8.index t 0 * 1024 + 1 * (x 0).val = (x 0).val; rw [(idx8 t).1]; omega
  | ⟨1, _⟩ => show win1_8.index t 1 * 1024 + 1 * (x 1).val = (x 1).val; rw [(idx8 t).2]; omega
theorem idx9 : ∀ t : Fin grid1.N, win1_9.index t 0 = 0 ∧ win1_9.index t 1 = 0 := by decide +kernel
theorem blk9 (t : Fin grid1.N) : (blk V d 9 t : Vec Ideal S1x1024 .f32) = r15 V d := by
  funext x
  refine congrArg (r15 V d) (funext fun a => Fin.ext ?_)
  match a with
  | ⟨0, _⟩ => show win1_9.index t 0 * 1 + 1 * (x 0).val = (x 0).val; rw [(idx9 t).1]; omega
  | ⟨1, _⟩ => show win1_9.index t 1 * 1024 + 1 * (x 1).val = (x 1).val; rw [(idx9 t).2]; omega
theorem idx10 : ∀ t : Fin grid1.N, win1_10.index t 0 = 0 ∧ win1_10.index t 1 = 0 := by decide +kernel
theorem blk10 (t : Fin grid1.N) : (blk V d 10 t : Vec Ideal S1x1024 .f32) = r16 V d := by
  funext x
  refine congrArg (r16 V d) (funext fun a => Fin.ext ?_)
  match a with
  | ⟨0, _⟩ => show win1_10.index t 0 * 1 + 1 * (x 0).val = (x 0).val; rw [(idx10 t).1]; omega
  | ⟨1, _⟩ => show win1_10.index t 1 * 1024 + 1 * (x 1).val = (x 1).val; rw [(idx10 t).2]; omega
theorem idx11 : ∀ t : Fin grid1.N, win1_11.index t 0 = 0 ∧ win1_11.index t 1 = 0 := by decide +kernel
theorem blk11 (t : Fin grid1.N) : (blk V d 11 t : Vec Ideal S1x1024 .f32) = r17 V d := by
  funext x
  refine congrArg (r17 V d) (funext fun a => Fin.ext ?_)
  match a with
  | ⟨0, _⟩ => show win1_11.index t 0 * 1 + 1 * (x 0).val = (x 0).val; rw [(idx11 t).1]; omega
  | ⟨1, _⟩ => show win1_11.index t 1 * 1024 + 1 * (x 1).val = (x 1).val; rw [(idx11 t).2]; omega

/-! ## Queries, keys and values -/

abbrev Qm : Mat 2048 1024 := lin (ctx (mat (at11 V d))) (mat (w2 V d)) (row (r12 V d))
abbrev Km : Mat 2048 1024 := lin (ctx (mat (at11 V d))) (mat (w4 V d)) (row (r13 V d))
abbrev Vm : Mat 2048 1024 := lin (ctx (mat (at11 V d))) (mat (w6 V d)) (row (r14 V d))

theorem qAt_eq (u : Fin grid1.N) (p : Fin 256) (j : Fin 1024) : (qAt V d u (ix2 p j) : EReal) = Qm V d (rowOf (grid1.coords u) p) j := by
  refine (qBlk_at _ _ _ (mat (at11 V d)) _ _ (blk0 V d u) (blk1 V d u) p j).trans ?_
  rw [blk2, blk3]
theorem kAt_eq (u : Fin grid1.N) (p : Fin 256) (j : Fin 1024) : (kAt V d u (ix2 p j) : EReal) = Km V d (rowOf (grid1.coords u) p) j := by
  refine (kBlk_at _ _ _ (mat (at11 V d)) _ _ (blk0 V d u) (blk1 V d u) p j).trans ?_
  rw [blk4, blk5]
theorem vAt_eq (u : Fin grid1.N) (p : Fin 256) (j : Fin 1024) : (vAt V d u (ix2 p j) : EReal) = Vm V d (rowOf (grid1.coords u) p) j := by
  refine (vBlk_at _ _ _ (mat (at11 V d)) _ _ (blk0 V d u) (blk1 V d u) p j).trans ?_
  rw [blk6, blk7]

/-- The rows of a scratch array's first blocks. -/
theorem good_rows {P : Fin grid1.N → FVec Ideal S256x1024 .f32} {M : Mat 2048 1024} (hP : ∀ u p j, (P u (ix2 p j) : EReal) = M (rowOf (grid1.coords u) p) j)
    (t : Fin grid1.N) (k : Vec Ideal S2048x1024 .f32) (hk : Good P (t.val + 1) k) (s : Fin 2048) (hs : s.val < 256 * ((no (grid1.coords t)).val + 1)) (j : Fin 1024) :
    (k (ix2 s j) : EReal) = M s j := by
  rw [no_val] at hs
  have ht : t.val < 8 := t.isLt
  let u : Fin grid1.N := ⟨s.val / 256, show s.val / 256 < 8 by omega⟩
  have e : rowOf (grid1.coords u) ⟨s.val % 256, by omega⟩ = s := Fin.ext (by
    show 256 * (no (grid1.coords u)).val + s.val % 256 = s.val
    rw [no_val]; show 256 * (s.val / 256) + s.val % 256 = s.val; omega)
  have h := congrFun (hk u (show s.val / 256 < t.val + 1 by omega)) (ix2 ⟨s.val % 256, by omega⟩ j)
  rw [ld_own, e] at h
  refine h.trans ((hP u _ j).trans ?_)
  rw [e]

/-- What the body leaves for the result at a block. -/
theorem out_eq (t : Fin grid1.N) (X : Vec Ideal S256x1024 .bf16) (h : OutOK V d t X) (p : Fin 256) (j : Fin 1024) :
    X (ix2 p j) = result V d (ix2 (rowOf (grid1.coords t) p) j) := by
  obtain ⟨k, v, hk, hv, rfl⟩ := h
  refine (congrFun (View.canon_unit_zero (S := S256x1024) off_zero _ _) _).trans ?_
  refine (oBlk_at _ (Qm V d) (Km V d) (Vm V d) _ k v (qAt_eq V d t) (good_rows (kAt_eq V d) t k hk) (good_rows (vAt_eq V d) t v hv) _ _ _ _ p j).trans ?_
  rw [blk8, blk9, blk10, blk11]
  rfl

/-- What the result array may hold after the stage. -/
theorem final (G : Buf (Elt Ideal) ((cfg1.win 12).arr.view.loc (d.tc : Thread nD τ))) (h : (rdat V d).ArrAt 12 8 G) : G = result V d := by
  obtain ⟨X, hX, hA⟩ := h.exists_exact
  rw [hA (Function.update (fun _ _ _ => Classical.arbitrary _) 12 X) fun u _ _ => by rw [Function.update_self]]
  refine Pipeline.Dat.arrAt_eq_of_cover (cfg := cfg1) _ 12 (result V d) (fun t hf => ?_) fun i => ?_
  · obtain ⟨Y, -, hO⟩ := hX t t.isLt hf
    change OutOK V d t (X t) at hO
    funext (y : S256x1024.Idx)
    obtain ⟨p, j, rfl⟩ : ∃ (p : Fin 256) (j : Fin 1024), y = ix2 p j := ⟨y 0, y 1, eq_ix2 y⟩
    have e : ((rdat V d).withAfter (Function.update (fun _ _ _ => Classical.arbitrary _) 12 X)).after 12 t = X t := by
      rw [Pipeline.RDat.withAfter_after, Function.update_self]
    refine Eq.trans (b := X t (ix2 p j)) ?_ ((out_eq V d t (X t) hO p j).trans ?_)
    · exact congrFun e _
    · refine congrArg (result V d) (funext fun a => Fin.ext ?_)
      match a with
      | ⟨0, _⟩ => show 256 * (no (grid1.coords t)).val + p.val = win1_12.index t 0 * 256 + 1 * p.val; rw [(idx12 t).1, no_val]; omega
      | ⟨1, _⟩ => show j.val = win1_12.index t 1 * 1024 + 1 * j.val; rw [(idx12 t).2]; omega
  · have h0 : (i 0 : Nat) < 2048 := (i 0).isLt
    have h1 : (i 1 : Nat) < 1024 := (i 1).isLt
    let t : Fin cfg1.N := ⟨(i 0 : Nat) / 256, show (i 0 : Nat) / 256 < 8 by omega⟩
    have ht : t.val = (i 0 : Nat) / 256 := rfl
    refine ⟨t, flush1_12 t, ?_⟩
    show i ∈ ((View.whole main_v18).slice (win1_12.rect t)).set
    rw [View.set_slice_whole, Rect.mem_set_unit]
    intro a
    match a with
    | ⟨0, _⟩ =>
      show win1_12.index t 0 * 256 ≤ (i 0 : Nat) ∧ (i 0 : Nat) < win1_12.index t 0 * 256 + 256
      rw [(idx12 t).1, ht]; omega
    | ⟨1, _⟩ =>
      show win1_12.index t 1 * 1024 ≤ (i 1 : Nat) ∧ (i 1 : Nat) < win1_12.index t 1 * 1024 + 1024
      rw [(idx12 t).2]; omega

end Cert.Proof.AttnValue

end
-- ==== Proof.Claims.lean ====
/-
  The claims: the kernel's and the reference's runs read at their arguments and results.
-/
module

public import proofs.«01_k».proof.Defs
public import proofs.«01_k».proof.Proof.Launch
public import proofs.«01_k».proof.Proof.Rows
public import proofs.«01_k».proof.Proof.Finite
public import proofs.«01_k».proof.Proof.Same
public import proofs.«01_k».proof.Proof.AttnRef
public import proofs.«01_k».proof.Proof.AttnValue
public import proofs.«01_k».proof.Proof.Gen.Kernel
public import proofs.«01_k».proof.Proof.Gen.ReferenceIdeal.Run

@[expose] public section

set_option maxRecDepth 8192

noncomputable section

namespace Cert.Proof.Claims

open Cert.KernelIdeal Cert.KernelIdeal.Gen Cert.Proof.Pieces Cert.Proof.Launch Cert.Proof.Rows Cert.Proof.AttnRegion
open Idealize.ShloMosaic Idealize.ShloMosaic.StableHlo Idealize.SL.Sem

variable {F : FTy → Type} [FloatOps F]
variable (m : (ℓ : Loc nD τ sig) → Buf (Elt F) ℓ)

/-! ## What the kernel leaves -/

theorem V1_arg0 (d : Dev nD) : V1 m d (Proc.devRef .tc main_arg0) = m ((d.tc : Thread nD τ).loc main_arg0) := by
  unfold V1; simp only [Launch.ops]; after_results <;> rfl
theorem V1_arg1 (d : Dev nD) : V1 m d (Proc.devRef .tc main_arg1) = m ((d.tc : Thread nD τ).loc main_arg1) := by
  unfold V1; simp only [Launch.ops]; after_results <;> rfl
theorem V1_arg2 (d : Dev nD) : V1 m d (Proc.devRef .tc main_arg2) = m ((d.tc : Thread nD τ).loc main_arg2) := by
  unfold V1; simp only [Launch.ops]; after_results <;> rfl
theorem V1_arg3 (d : Dev nD) : V1 m d (Proc.devRef .tc main_arg3) = m ((d.tc : Thread nD τ).loc main_arg3) := by
  unfold V1; simp only [Launch.ops]; after_results <;> rfl
theorem V1_arg4 (d : Dev nD) : V1 m d (Proc.devRef .tc main_arg4) = m ((d.tc : Thread nD τ).loc main_arg4) := by
  unfold V1; simp only [Launch.ops]; after_results <;> rfl
theorem V1_arg5 (d : Dev nD) : V1 m d (Proc.devRef .tc main_arg5) = m ((d.tc : Thread nD τ).loc main_arg5) := by
  unfold V1; simp only [Launch.ops]; after_results <;> rfl
theorem V1_arg6 (d : Dev nD) : V1 m d (Proc.devRef .tc main_arg6) = m ((d.tc : Thread nD τ).loc main_arg6) := by
  unfold V1; simp only [Launch.ops]; after_results <;> rfl
theorem V1_arg7 (d : Dev nD) : V1 m d (Proc.devRef .tc main_arg7) = m ((d.tc : Thread nD τ).loc main_arg7) := by
  unfold V1; simp only [Launch.ops]; after_results <;> rfl
theorem V1_arg8 (d : Dev nD) : V1 m d (Proc.devRef .tc main_arg8) = m ((d.tc : Thread nD τ).loc main_arg8) := by
  unfold V1; simp only [Launch.ops]; after_results <;> rfl
theorem V1_arg9 (d : Dev nD) : V1 m d (Proc.devRef .tc main_arg9) = m ((d.tc : Thread nD τ).loc main_arg9) := by
  unfold V1; simp only [Launch.ops]; after_results <;> rfl
theorem V1_arg10 (d : Dev nD) : V1 m d (Proc.devRef .tc main_arg10) = m ((d.tc : Thread nD τ).loc main_arg10) := by
  unfold V1; simp only [Launch.ops]; after_results <;> rfl
theorem V1_arg11 (d : Dev nD) : V1 m d (Proc.devRef .tc main_arg11) = m ((d.tc : Thread nD τ).loc main_arg11) := by
  unfold V1; simp only [Launch.ops]; after_results <;> rfl
theorem V1_arg12 (d : Dev nD) : V1 m d (Proc.devRef .tc main_arg12) = m ((d.tc : Thread nD τ).loc main_arg12) := by
  unfold V1; simp only [Launch.ops]; after_results <;> rfl
theorem V1_arg13 (d : Dev nD) : V1 m d (Proc.devRef .tc main_arg13) = m ((d.tc : Thread nD τ).loc main_arg13) := by
  unfold V1; simp only [Launch.ops]; after_results <;> rfl
theorem ftM_eq (d : Dev nD) : ftM m d = shapeCast S256000x128 (m ((d.tc : Thread nD τ).loc main_arg1)) shapeCasts_S32000x1024_S256000x128 := by
  unfold ftM V1; simp only [Launch.ops]; after_results <;> rfl
theorem fiM_eq (d : Dev nD) : fiM m d = pieceRows (m ((d.tc : Thread nD τ).loc main_arg0)) := by
  unfold fiM V1 pieceRows; simp only [Launch.ops]; after_results <;> rfl

theorem V3_arg0 (d : Dev nD) : V3 m d (Proc.devRef .tc main_arg0) = m ((d.tc : Thread nD τ).loc main_arg0) := by
  unfold V3; simp only [Launch.ops2]; after_results <;> exact (Function.update_of_ne (by decide) _ _).trans (V1_arg0 m d)
theorem V3_arg1 (d : Dev nD) : V3 m d (Proc.devRef .tc main_arg1) = m ((d.tc : Thread nD τ).loc main_arg1) := by
  unfold V3; simp only [Launch.ops2]; after_results <;> exact (Function.update_of_ne (by decide) _ _).trans (V1_arg1 m d)
theorem V3_arg2 (d : Dev nD) : V3 m d (Proc.devRef .tc main_arg2) = m ((d.tc : Thread nD τ).loc main_arg2) := by
  unfold V3; simp only [Launch.ops2]; after_results <;> exact (Function.update_of_ne (by decide) _ _).trans (V1_arg2 m d)
theorem V3_arg3 (d : Dev nD) : V3 m d (Proc.devRef .tc main_arg3) = m ((d.tc : Thread nD τ).loc main_arg3) := by
  unfold V3; simp only [Launch.ops2]; after_results <;> exact (Function.update_of_ne (by decide) _ _).trans (V1_arg3 m d)
theorem V3_arg4 (d : Dev nD) : V3 m d (Proc.devRef .tc main_arg4) = m ((d.tc : Thread nD τ).loc main_arg4) := by
  unfold V3; simp only [Launch.ops2]; after_results <;> exact (Function.update_of_ne (by decide) _ _).trans (V1_arg4 m d)
theorem V3_arg5 (d : Dev nD) : V3 m d (Proc.devRef .tc main_arg5) = m ((d.tc : Thread nD τ).loc main_arg5) := by
  unfold V3; simp only [Launch.ops2]; after_results <;> exact (Function.update_of_ne (by decide) _ _).trans (V1_arg5 m d)
theorem V3_arg6 (d : Dev nD) : V3 m d (Proc.devRef .tc main_arg6) = m ((d.tc : Thread nD τ).loc main_arg6) := by
  unfold V3; simp only [Launch.ops2]; after_results <;> exact (Function.update_of_ne (by decide) _ _).trans (V1_arg6 m d)
theorem V3_arg7 (d : Dev nD) : V3 m d (Proc.devRef .tc main_arg7) = m ((d.tc : Thread nD τ).loc main_arg7) := by
  unfold V3; simp only [Launch.ops2]; after_results <;> exact (Function.update_of_ne (by decide) _ _).trans (V1_arg7 m d)
theorem V3_arg8 (d : Dev nD) : V3 m d (Proc.devRef .tc main_arg8) = m ((d.tc : Thread nD τ).loc main_arg8) := by
  unfold V3; simp only [Launch.ops2]; after_results <;> exact (Function.update_of_ne (by decide) _ _).trans (V1_arg8 m d)
theorem V3_arg9 (d : Dev nD) : V3 m d (Proc.devRef .tc main_arg9) = m ((d.tc : Thread nD τ).loc main_arg9) := by
  unfold V3; simp only [Launch.ops2]; after_results <;> exact (Function.update_of_ne (by decide) _ _).trans (V1_arg9 m d)
theorem V3_arg10 (d : Dev nD) : V3 m d (Proc.devRef .tc main_arg10) = m ((d.tc : Thread nD τ).loc main_arg10) := by
  unfold V3; simp only [Launch.ops2]; after_results <;> exact (Function.update_of_ne (by decide) _ _).trans (V1_arg10 m d)
theorem V3_arg11 (d : Dev nD) : V3 m d (Proc.devRef .tc main_arg11) = m ((d.tc : Thread nD τ).loc main_arg11) := by
  unfold V3; simp only [Launch.ops2]; after_results <;> exact (Function.update_of_ne (by decide) _ _).trans (V1_arg11 m d)
theorem V3_arg12 (d : Dev nD) : V3 m d (Proc.devRef .tc main_arg12) = m ((d.tc : Thread nD τ).loc main_arg12) := by
  unfold V3; simp only [Launch.ops2]; after_results <;> exact (Function.update_of_ne (by decide) _ _).trans (V1_arg12 m d)
theorem V3_arg13 (d : Dev nD) : V3 m d (Proc.devRef .tc main_arg13) = m ((d.tc : Thread nD τ).loc main_arg13) := by
  unfold V3; simp only [Launch.ops2]; after_results <;> exact (Function.update_of_ne (by decide) _ _).trans (V1_arg13 m d)
theorem V2_v10 (d : Dev nD) : V2 m d (Proc.devRef .tc main_v10) = gathered (ftM m d) (fiM m d) := Function.update_self _ _ _
theorem V3_v11 (d : Dev nD) : V3 m d (Proc.devRef .tc main_v11)
    = shapeCast S2048x1024 (gathered (ftM m d) (fiM m d)) shapeCasts_S16384x128_S2048x1024 := by
  unfold V3; simp only [Launch.ops2]; after_results <;> rw [V2_v10] <;> rfl
theorem V3_v12 (d : Dev nD) : V3 m d (Proc.devRef .tc main_v12) = shapeCast S1x1024 (m ((d.tc : Thread nD τ).loc main_arg3)) shapeCasts_S1024_S1x1024 := by
  unfold V3; simp only [Launch.ops2]; after_results <;> exact congrArg (fun f => shapeCast S1x1024 f shapeCasts_S1024_S1x1024) ((Function.update_of_ne (by decide) _ _).trans (V1_arg3 m d))
theorem V3_v13 (d : Dev nD) : V3 m d (Proc.devRef .tc main_v13) = shapeCast S1x1024 (m ((d.tc : Thread nD τ).loc main_arg5)) shapeCasts_S1024_S1x1024 := by
  unfold V3; simp only [Launch.ops2]; after_results <;> exact congrArg (fun f => shapeCast S1x1024 f shapeCasts_S1024_S1x1024) ((Function.update_of_ne (by decide) _ _).trans (V1_arg5 m d))
theorem V3_v14 (d : Dev nD) : V3 m d (Proc.devRef .tc main_v14) = shapeCast S1x1024 (m ((d.tc : Thread nD τ).loc main_arg7)) shapeCasts_S1024_S1x1024 := by
  unfold V3; simp only [Launch.ops2]; after_results <;> exact congrArg (fun f => shapeCast S1x1024 f shapeCasts_S1024_S1x1024) ((Function.update_of_ne (by decide) _ _).trans (V1_arg7 m d))
theorem V3_v15 (d : Dev nD) : V3 m d (Proc.devRef .tc main_v15) = shapeCast S1x1024 (m ((d.tc : Thread nD τ).loc main_arg9)) shapeCasts_S1024_S1x1024 := by
  unfold V3; simp only [Launch.ops2]; after_results <;> exact congrArg (fun f => shapeCast S1x1024 f shapeCasts_S1024_S1x1024) ((Function.update_of_ne (by decide) _ _).trans (V1_arg9 m d))
theorem V3_v16 (d : Dev nD) : V3 m d (Proc.devRef .tc main_v16) = shapeCast S1x1024 (m ((d.tc : Thread nD τ).loc main_arg10)) shapeCasts_S1024_S1x1024 := by
  unfold V3; simp only [Launch.ops2]; after_results <;> exact congrArg (fun f => shapeCast S1x1024 f shapeCasts_S1024_S1x1024) ((Function.update_of_ne (by decide) _ _).trans (V1_arg10 m d))
theorem V3_v17 (d : Dev nD) : V3 m d (Proc.devRef .tc main_v17) = shapeCast S1x1024 (m ((d.tc : Thread nD τ).loc main_arg11)) shapeCasts_S1024_S1x1024 := by
  unfold V3; simp only [Launch.ops2]; after_results <;> exact congrArg (fun f => shapeCast S1x1024 f shapeCasts_S1024_S1x1024) ((Function.update_of_ne (by decide) _ _).trans (V1_arg11 m d))

/-- Under the precondition the row numbers are in range, -/
theorem preOK (hx : ∀ (d : Dev nD) (i : S1x2048.Idx), ((m ((d.tc : Thread nD τ).loc main_arg0) : S1x2048.Idx → BitVec 32) i).toNat < 32000) :
    PreOK m := fun d => by
  rw [fiM_eq]; exact pieceRows_inRange _ (hx d)

/-- and the attention stage is entered with the rows asked for. -/
theorem rows_eq (d : Dev nD) (hx : ∀ i : S1x2048.Idx, ((m ((d.tc : Thread nD τ).loc main_arg0) : S1x2048.Idx → BitVec 32) i).toNat < 32000) :
    V3 m d (Proc.devRef .tc main_v11) = rows (m ((d.tc : Thread nD τ).loc main_arg0)) (m ((d.tc : Thread nD τ).loc main_arg1)) := by
  rw [V3_v11, fiM_eq, ftM_eq]; exact pieces_eq _ _ hx

/-- The kernel's run: its arguments keep their contents, its result is what the attention stage may leave, every counter is back at zero. -/
theorem run_kernel [∀ e, Nonempty (Elt F e)] (ρ : Dev nD → PrngReg)
    (hx : ∀ (d : Dev nD) (i : S1x2048.Idx), ((m ((d.tc : Thread nD τ).loc main_arg0) : S1x2048.Idx → BitVec 32) i).toNat < 32000) :
    θ_run (Cert.KernelIdeal.defs (F := F)) (Cert.KernelIdeal.threads (F := F)) ⟨m, fun _ => 0, ρ⟩ (fun r =>
      (∀ c : Dev nD, (rdat (V3 m) c).ArrAt 12 8 (r.2.mem ((c.tc : Thread nD τ).loc main_v18))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13))
      ∧ r.2.sem = fun _ => 0) :=
  (θ_run Cert.KernelIdeal.defs _ _).mono (fun r h => ⟨fun c => by
    obtain ⟨G, hG, hr⟩ := h.1 c
    have e : r.2.mem ((c.tc : Thread nD τ).loc main_v18) = G := (hr (Proc.devRef .tc main_v18) (mem_uc main_v18 (by decide))).trans (outV_out (V3 m) c G)
    have keep : ∀ b : Ref sig .tc, b ≠ main_v18 → Proc.devRef (τ := τ) .tc b ∈ Pipeline.ucRefs τ sig → r.2.mem (c, Proc.devRef .tc b) = V3 m c (Proc.devRef .tc b) := fun b hb hu =>
      (hr _ hu).trans (outV_ne (V3 m) c G b hb)
    exact ⟨e ▸ hG,
      (keep main_arg0 (by decide) (mem_uc main_arg0 (by decide))).trans (V3_arg0 m c),
      (keep main_arg1 (by decide) (mem_uc main_arg1 (by decide))).trans (V3_arg1 m c),
      (keep main_arg2 (by decide) (mem_uc main_arg2 (by decide))).trans (V3_arg2 m c),
      (keep main_arg3 (by decide) (mem_uc main_arg3 (by decide))).trans (V3_arg3 m c),
      (keep main_arg4 (by decide) (mem_uc main_arg4 (by decide))).trans (V3_arg4 m c),
      (keep main_arg5 (by decide) (mem_uc main_arg5 (by decide))).trans (V3_arg5 m c),
      (keep main_arg6 (by decide) (mem_uc main_arg6 (by decide))).trans (V3_arg6 m c),
      (keep main_arg7 (by decide) (mem_uc main_arg7 (by decide))).trans (V3_arg7 m c),
      (keep main_arg8 (by decide) (mem_uc main_arg8 (by decide))).trans (V3_arg8 m c),
      (keep main_arg9 (by decide) (mem_uc main_arg9 (by decide))).trans (V3_arg9 m c),
      (keep main_arg10 (by decide) (mem_uc main_arg10 (by decide))).trans (V3_arg10 m c),
      (keep main_arg11 (by decide) (mem_uc main_arg11 (by decide))).trans (V3_arg11 m c),
      (keep main_arg12 (by decide) (mem_uc main_arg12 (by decide))).trans (V3_arg12 m c),
      (keep main_arg13 (by decide) (mem_uc main_arg13 (by decide))).trans (V3_arg13 m c)⟩, h.2⟩) (run_main m ρ (preOK m hx))

/-! ## The frames -/

theorem frame_kernel : Cert.quiescent_Kernel := fun m g h => by
  have e := run_kernel (F := Bits) m g fun d => tokens_lt _ _ _ _ _ _ _ _ _ _ _ _ _ _ (h d)
  rw [← Same.tables] at e
  exact (θ_run Cert.Kernel.defs _ _).mono (fun _ hr => ⟨fun c => (hr.1 c).2, hr.2⟩) e

theorem frame_kernelIdeal : Cert.quiescent_KernelIdeal := fun m g h =>
  (θ_run Cert.KernelIdeal.defs _ _).mono (fun _ hr => ⟨fun c => (hr.1 c).2, hr.2⟩)
    (run_kernel (F := Ideal) m g fun d => tokens_lt _ _ _ _ _ _ _ _ _ _ _ _ _ _ (h d))

theorem frame_kernelIdeal_pre : Cert.quiescent_KernelIdeal_pre_tokens_in_vocab_scores_finite := fun m g h =>
  (θ_run Cert.KernelIdeal.defs _ _).mono (fun _ hr => ⟨fun c => (hr.1 c).2, hr.2⟩)
    (run_kernel (F := Ideal) m g fun d => (Finite.read _ _ _ _ _ _ _ _ _ _ _ _ _ _ (h d)).tokens)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_tokens_in_vocab_scores_finite := fun m g _ =>
  (θ_run Cert.ReferenceIdeal.defs _ _).mono (fun r h => ⟨fun c => (h c).2, sem_eq_zero_of_no_sems (by decide) r.2⟩)
    (Cert.ReferenceIdeal.Value.run (F := Ideal) m g)

/-! ## The value -/

/-- An array of one row. -/
theorem row_eq (x : Vec Ideal S1024 .f32) (j : Fin 1024) : (shapeCast S1x1024 x shapeCasts_S1024_S1x1024 : Vec Ideal S1x1024 .f32) (ix2 0 j) = x (ix1 j) :=
  shapeCast_apply (s := S1024) (t := S1x1024) _ _ _ _ (by
    rw [Shape.rowMajor_val_one, Shape.rowMajor_val_two]
    show j.val = 0 * 1024 + j.val
    omega)

end Cert.Proof.Claims

end
-- ==== Proof.Whole.lean ====
/-
  The kernel's hidden states are the reference's: both runs end with the attention stage's formula of the table's rows.
-/
module

public import proofs.«01_k».proof.Proof.Claims

@[expose] public section

set_option maxRecDepth 8192

noncomputable section

namespace Cert.Proof.Claims

open Cert.KernelIdeal Cert.KernelIdeal.Gen Cert.Proof.Rows Cert.Proof.AttnMath Cert.Proof.AttnSpec Cert.Proof.AttnRegion
open Idealize.ShloMosaic Idealize.ShloMosaic.StableHlo Idealize.SL.Sem

/-- The hidden states, from the arguments. -/
def hidden (x : S1x2048.Idx → BitVec 32) (e : Vec Ideal S32000x1024 .f32) (w2 : Vec Ideal S1024x1024 .f32) (w3 : Vec Ideal S1024 .f32) (w4 : Vec Ideal S1024x1024 .f32)
    (w5 : Vec Ideal S1024 .f32) (w6 : Vec Ideal S1024x1024 .f32) (w7 : Vec Ideal S1024 .f32) (w8 : Vec Ideal S1024x1024 .f32) (w9 w10 w11 : Vec Ideal S1024 .f32) :
    Vec Ideal S2048x1024 .bf16 := fun i =>
  stage (AttnRef.mat (rows x e)) (AttnRef.mat w2) (AttnRef.vec w3) (AttnRef.mat w4) (AttnRef.vec w5) (AttnRef.mat w6) (AttnRef.vec w7) (AttnRef.mat w8) (AttnRef.vec w9)
    (AttnRef.vec w10) (AttnRef.vec w11) (i 0) (i 1)

section Kernel

variable (m : (ℓ : Loc nD τ sig) → Buf (Elt Ideal) ℓ) (d : Dev nD)

theorem row_of (a : Vec Ideal S1x1024 .f32) (x : Vec Ideal S1024 .f32) (h : a = shapeCast S1x1024 x shapeCasts_S1024_S1x1024) : AttnBlock.row a = AttnRef.vec x :=
  funext fun j => (congrFun h _).trans (row_eq x j)

theorem stage_congr {E E' : Mat 2048 1024} {a a' c c' e e' g g' : Mat 1024 1024} {b b' d d' f f' h h' i i' j j' : Fin 1024 → EReal}
    (hE : E = E') (ha : a = a') (hb : b = b') (hc : c = c') (hd : d = d') (he : e = e') (hf : f = f') (hg : g = g') (hh : h = h') (hi : i = i') (hj : j = j') (r : Fin 2048) (s : Fin 1024) :
    stage E a b c d e f g h i j r s = stage E' a' b' c' d' e' f' g' h' i' j' r s := by
  subst hE ha hb hc hd he hf hg hh hi hj; rfl

/-- The kernel's result, from its arguments. -/
theorem kernel_value (hx : ∀ i : S1x2048.Idx, ((m ((d.tc : Thread nD τ).loc main_arg0) : S1x2048.Idx → BitVec 32) i).toNat < 32000) :
    AttnValue.result (Launch.V3 m) d = hidden (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5)) (m ((d.tc : Thread nD τ).loc main_arg6))
      (m ((d.tc : Thread nD τ).loc main_arg7)) (m ((d.tc : Thread nD τ).loc main_arg8)) (m ((d.tc : Thread nD τ).loc main_arg9)) (m ((d.tc : Thread nD τ).loc main_arg10))
      (m ((d.tc : Thread nD τ).loc main_arg11)) :=
  funext fun i => stage_congr (congrArg (fun f : Vec Ideal S2048x1024 .f32 => AttnBlock.mat f) (rows_eq m d hx))
    (congrArg (fun f : Vec Ideal S1024x1024 .f32 => AttnBlock.mat f) (V3_arg2 m d)) (row_of _ _ (V3_v12 m d))
    (congrArg (fun f : Vec Ideal S1024x1024 .f32 => AttnBlock.mat f) (V3_arg4 m d)) (row_of _ _ (V3_v13 m d))
    (congrArg (fun f : Vec Ideal S1024x1024 .f32 => AttnBlock.mat f) (V3_arg6 m d)) (row_of _ _ (V3_v14 m d))
    (congrArg (fun f : Vec Ideal S1024x1024 .f32 => AttnBlock.mat f) (V3_arg8 m d)) (row_of _ _ (V3_v15 m d))
    (row_of _ _ (V3_v16 m d)) (row_of _ _ (V3_v17 m d)) (i 0) (i 1)

end Kernel

section Reference

open Cert.ReferenceIdeal.Value

variable (V : Valuation Cert.ReferenceIdeal.τ Cert.ReferenceIdeal.sig (Elt Ideal))
variable (x : S1x2048.Idx → BitVec 32) (e : Vec Ideal S32000x1024 .f32) (w2 : Vec Ideal S1024x1024 .f32) (w3 : Vec Ideal S1024 .f32) (w4 : Vec Ideal S1024x1024 .f32)
    (w5 : Vec Ideal S1024 .f32) (w6 : Vec Ideal S1024x1024 .f32) (w7 : Vec Ideal S1024 .f32) (w8 : Vec Ideal S1024x1024 .f32) (w9 w10 w11 : Vec Ideal S1024 .f32)

/-- The reference's result, from its arguments. -/
theorem reference_value (h : Finite.Says x e w2 w3 w4 w5)
    (h0 : V (Proc.devRef .tc Cert.ReferenceIdeal.main_arg0) = x) (h1 : V (Proc.devRef .tc Cert.ReferenceIdeal.main_arg1) = e)
    (h2 : V (Proc.devRef .tc Cert.ReferenceIdeal.main_arg2) = w2) (h3 : V (Proc.devRef .tc Cert.ReferenceIdeal.main_arg3) = w3)
    (h4 : V (Proc.devRef .tc Cert.ReferenceIdeal.main_arg4) = w4) (h5 : V (Proc.devRef .tc Cert.ReferenceIdeal.main_arg5) = w5)
    (h6 : V (Proc.devRef .tc Cert.ReferenceIdeal.main_arg6) = w6) (h7 : V (Proc.devRef .tc Cert.ReferenceIdeal.main_arg7) = w7)
    (h8 : V (Proc.devRef .tc Cert.ReferenceIdeal.main_arg8) = w8) (h9 : V (Proc.devRef .tc Cert.ReferenceIdeal.main_arg9) = w9)
    (h10 : V (Proc.devRef .tc Cert.ReferenceIdeal.main_arg10) = w10) (h11 : V (Proc.devRef .tc Cert.ReferenceIdeal.main_arg11) = w11) :
    AttnRef.ln (res_main_v68 V) (V (Proc.devRef .tc Cert.ReferenceIdeal.main_arg10)) (V (Proc.devRef .tc Cert.ReferenceIdeal.main_arg11))
      = hidden x e w2 w3 w4 w5 w6 w7 w8 w9 w10 w11 := by
  subst h0 h1 h2 h3 h4 h5 h6 h7 h8 h9 h10 h11
  have hv := AttnRef.v1_eq V h.tokens
  have hE : AttnRef.E0 V = AttnRef.mat (rows (F := Ideal) (V (Proc.devRef .tc Cert.ReferenceIdeal.main_arg0)) (V (Proc.devRef .tc Cert.ReferenceIdeal.main_arg1))) :=
    congrArg (fun f : Vec Ideal S2048x1024 .f32 => AttnRef.mat f) hv
  refine funext fun i => ?_
  have hi : i = (ix2 (i 0) (i 1) : S2048x1024.Idx) := by funext a; match a with | ⟨0, _⟩ => rfl | ⟨1, _⟩ => rfl
  refine (congrArg _ hi).trans ?_
  refine (AttnRef.result_eq V (fun r j => ?_) (fun i j => h.wq _) (fun i => h.bq _) (fun i j => h.wk _) (fun i => h.bk _) (i 0) (i 1)).trans ?_
  · rw [hE]; exact h.table _
  · exact stage_congr hE rfl rfl rfl rfl rfl rfl rfl rfl rfl rfl (i 0) (i 1)

end Reference

theorem algebraic : Cert.algebraic_KernelIdeal_ReferenceIdeal_pre_tokens_in_vocab_scores_finite := fun m g m' g' h hm => by
  have fin := fun d => Finite.read _ _ _ _ _ _ _ _ _ _ _ _ _ _ (h d)
  refine ⟨fun d => hidden (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5)) (m ((d.tc : Thread nD τ).loc main_arg6))
      (m ((d.tc : Thread nD τ).loc main_arg7)) (m ((d.tc : Thread nD τ).loc main_arg8)) (m ((d.tc : Thread nD τ).loc main_arg9)) (m ((d.tc : Thread nD τ).loc main_arg10))
      (m ((d.tc : Thread nD τ).loc main_arg11)), ?_, ?_⟩
  · exact (θ_run Cert.KernelIdeal.defs _ _).mono (fun _ hr c => ⟨(AttnValue.final (Launch.V3 m) c _ (hr.1 c).1).trans (kernel_value m c (fin c).tokens), (hr.1 c).2⟩)
      (run_kernel (F := Ideal) m g fun d => (fin d).tokens)
  · refine (θ_run Cert.ReferenceIdeal.defs _ _).mono (fun r hr c => ⟨(hr c).1.trans ?_, (hr c).2⟩) (Cert.ReferenceIdeal.Value.run (F := Ideal) m' g')
    obtain ⟨a0, a1, a2, a3, a4, a5, a6, a7, a8, a9, a10, a11, -, -⟩ := hm c
    exact reference_value (launchContents m' c) _ _ _ _ _ _ _ _ _ _ _ _ (fin c) a0 a1 a2 a3 a4 a5 a6 a7 a8 a9 a10 a11

end Cert.Proof.Claims

end
-- ==== Proof.VocabValue.lean ====
/-
  The vocabulary stage: the product of the normalised rows with the output matrix, plus the bias.

  The kernel goes over 25 blocks of 1280 vocabulary entries; a block's product contracts the whole hidden axis at once.
  Its result array is therefore, entry by entry, the same sum over the hidden axis as the reference's one product.
-/
module

public import proofs.«01_k».proof.Defs
public import proofs.«01_k».proof.Proof.Gen.Vocab.Frame
public import proofs.«01_k».proof.Proof.Gen.VocabIdeal.Value
public import proofs.«01_k».proof.Proof.Gen.VocabReferenceIdeal.Run
public import Idealize.ShloMosaic.Lib.Pointwise.Tactic
public import Idealize.ShloMosaic.Lib.Pointwise.Contract
public import Idealize.ShloMosaic.Lib.Quiescent

@[expose] public section

noncomputable section

open Idealize.ShloMosaic Idealize.ShloMosaic.TcCoe Idealize.SL.Sem

namespace VocabValue

/-- Entry (s, v) of the scores: the rows' product with the output matrix, plus the bias. -/
def scores (h : FVec Ideal ⟨2, ![2048, 1024]⟩ .bf16) (W : FVec Ideal ⟨2, ![32000, 1024]⟩ .f32)
    (b : FVec Ideal ⟨1, ![32000]⟩ .f32) : FVec Ideal ⟨2, ![2048, 32000]⟩ .f32 :=
  fun i => (∑ k : Fin 1024, (h (ix2 (i 0) k) : EReal) * W (ix2 (i 1) k)) + b (ix1 (i 1))

namespace KernelSide

open Cert.VocabIdeal Cert.VocabIdeal.Gen Cert.VocabIdeal.Value

variable (m : (ℓ : Loc nD τ sig) → Buf (Elt Ideal) ℓ) (c : Dev nD)

theorem zeros : (![0, 0] : Fin 2 → Nat) = fun _ => 0 := funext fun a => by fin_cases a <;> rfl

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)

theorem lt_col (t : Fin cfg0.N) (v : Fin 1280) : 1280 * t.val + v.val < 32000 := by
  have := t.isLt; have : cfg0.N = 25 := N_0; have := v.isLt; omega

/-- The rows' one block is the whole array. -/
theorem block0 (t : Fin cfg0.N) (s : Fin 2048) (k : Fin 1024) :
    iblk m c 0 t (ix2 s k : S2048x1024.Idx) = m ((c : Thread nD τ).loc main_arg0) (ix2 s k : S2048x1024.Idx) := by
  refine Eq.trans ?_ (congrFun (V_main_arg0 m c) _)
  refine congrArg (V m c main_arg0) (funext fun a => Fin.ext ?_)
  match a with
  | ⟨0, _⟩ => show win0_0.index t 0 * 2048 + 1 * s.val = s.val; rw [(index0 t).1]; omega
  | ⟨1, _⟩ => show win0_0.index t 1 * 1024 + 1 * k.val = k.val; rw [(index0 t).2]; omega

/-- Block t of the output matrix: its rows from 1280 t. -/
theorem block1 (t : Fin cfg0.N) (v : Fin 1280) (k : Fin 1024) :
    iblk m c 1 t (ix2 v k : S1280x1024.Idx)
      = m ((c : Thread nD τ).loc main_arg1) (ix2 ⟨1280 * t.val + v.val, lt_col t v⟩ k : S32000x1024.Idx) := by
  refine Eq.trans ?_ (congrFun (V_main_arg1 m c) _)
  refine congrArg (V m c main_arg1) (funext fun a => Fin.ext ?_)
  match a with
  | ⟨0, _⟩ => show win0_1.index t 0 * 1280 + 1 * v.val = 1280 * t.val + v.val; rw [(index1 t).1]; omega
  | ⟨1, _⟩ => show win0_1.index t 1 * 1024 + 1 * k.val = k.val; rw [(index1 t).2]; omega

/-- The bias, reshaped to one row. -/
theorem bias_row : V m c main_v0 = shapeCast S1x32000 (m ((c : Thread nD τ).loc main_arg2)) shapeCasts_S32000_S1x32000 := by
  show StableHlo.after hostOps0 (fun b => m (c, b)) main_v0 = _
  after_results
  rfl

/-- Block t of the bias: its entries from 1280 t. -/
theorem block2 (t : Fin cfg0.N) (v : Fin 1280) :
    iblk m c 2 t (ix2 (0 : Fin 1) v : S1x1280.Idx)
      = m ((c : Thread nD τ).loc main_arg2) (ix1 ⟨1280 * t.val + v.val, lt_col t v⟩ : S32000.Idx) := by
  have e : iblk m c 2 t (ix2 (0 : Fin 1) v : S1x1280.Idx)
      = V m c main_v0 (ix2 (0 : Fin 1) ⟨1280 * t.val + v.val, lt_col t v⟩ : S1x32000.Idx) := by
    refine congrArg (V m c main_v0) (funext fun a => Fin.ext ?_)
    match a with
    | ⟨0, _⟩ => show win0_2.index t 0 * 1 + 1 * 0 = 0; rw [(index2 t).1]
    | ⟨1, _⟩ => show win0_2.index t 1 * 1280 + 1 * v.val = 1280 * t.val + v.val; rw [(index2 t).2]; omega
  rw [e, bias_row]
  refine shapeCast_apply (s := S32000) (t := S1x32000) _ _ _ _ ?_
  rw [Shape.rowMajor_val_one, Shape.rowMajor_val_two]
  show 1280 * t.val + v.val = 0 * 32000 + (1280 * t.val + v.val)
  omega

/-- One block's body: the product over the whole hidden axis plus the bias. -/
theorem body (x0 : Vec Ideal S2048x1024 .bf16) (x1 : Vec Ideal S1280x1024 .f32) (x2 : Vec Ideal S1x1280 .f32)
    (s : Fin 2048) (v : Fin 1280) :
    out0_3 x0 x1 x2 (ix2 s v : S2048x1280.Idx)
      = (∑ k : Fin 1024, (x0 (ix2 s k) : EReal) * x1 (ix2 v k)) + x2 (ix2 (0 : Fin 1) v) := by
  have e : out0_3 x0 x1 x2 = k0_pay1 x0 x1 x2 :=
    (View.canon_unit_zero (S := S2048x1280) zeros _ _).trans (by
      rw [show View.ld x0 r0_0 = x0 from View.ld_unit_zero (S := S2048x1024) zeros ..,
        show View.ld x1 r0_1 = x1 from View.ld_unit_zero (S := S1280x1024) zeros ..,
        show View.ld x2 r0_2 = x2 from View.ld_unit_zero (S := S1x1280) zeros ..])
  rw [e]
  unfold k0_pay1
  simp only [shapeCast_self]
  refine congrArg₂ (· + ·) ?_ (by simp only [pointwise]; rfl)
  refine (Ideal.matmul_apply₁ _ (a := 1) (K := 1024) rfl rfl _ _ _ _).trans ?_
  simp only [pointwise, zero_add]

/-- What point t writes back is block t of the scores. -/
theorem flushed_eq (t : Fin cfg0.N) :
    (dats m 0 c).flushed 3 t = ((cfg0.win 3).blk t).view.read (Elt Ideal)
      (scores (m ((c : Thread nD τ).loc main_arg0)) (m ((c : Thread nD τ).loc main_arg1))
        (m ((c : Thread nD τ).loc main_arg2))) := by
  rw [flushed3]
  funext (j : S2048x1280.Idx)
  obtain ⟨s, v, rfl⟩ : ∃ (s : Fin 2048) (v : Fin 1280), j = ix2 s v := ⟨j 0, j 1, eq_ix2 j⟩
  refine Eq.trans (b := scores _ _ _ (ix2 s ⟨1280 * t.val + v.val, lt_col t v⟩ : S2048x32000.Idx)) ?_
    (congrArg (scores _ _ _) (funext fun a => Fin.ext ?_))
  · refine (body _ _ _ s v).trans ?_
    refine congrArg₂ (· + ·) (Finset.sum_congr rfl fun k _ => ?_) (block2 m c t v)
    exact congrArg₂ (· * ·) (block0 m c t s k) (block1 m c t v k)
  · match a with
    | ⟨0, _⟩ => show s.val = win0_3.index t 0 * 2048 + 1 * s.val; rw [(index3 t).1]; omega
    | ⟨1, _⟩ => show 1280 * t.val + v.val = win0_3.index t 1 * 1280 + 1 * v.val; rw [(index3 t).2]; omega

/-- The 25 blocks cover the array, so it ends holding the scores. -/
theorem final : (dats m 0 c).arrAt 3 cfg0.N
    = scores (m ((c : Thread nD τ).loc main_arg0)) (m ((c : Thread nD τ).loc main_arg1))
        (m ((c : Thread nD τ).loc main_arg2)) :=
  (dats m 0 c).arrAt_eq_of_cover 3 _ (fun t _ => flushed_eq m c t) fun i => by
    have h0 : (i 0 : Nat) < 2048 := (i 0).isLt
    have h1 : (i 1 : Nat) < 32000 := (i 1).isLt
    have hN : cfg0.N = 25 := N_0
    let t : Fin cfg0.N := ⟨(i 1 : Nat) / 1280, by omega⟩
    have ht : t.val = (i 1 : Nat) / 1280 := rfl
    refine ⟨t, flush0_3 t, ?_⟩
    show i ∈ ((View.whole main_v1).slice (win0_3.rect t)).set
    rw [View.set_slice_whole, Rect.mem_set_unit]
    intro a
    match a with
    | ⟨0, _⟩ =>
      show win0_3.index t 0 * 2048 ≤ (i 0 : Nat) ∧ (i 0 : Nat) < win0_3.index t 0 * 2048 + 2048
      rw [(index3 t).1]; omega
    | ⟨1, _⟩ =>
      show win0_3.index t 1 * 1280 ≤ (i 1 : Nat) ∧ (i 1 : Nat) < win0_3.index t 1 * 1280 + 1280
      rw [(index3 t).2, ht]; omega

end KernelSide

namespace ReferenceSide

open Cert.VocabReferenceIdeal Cert.VocabReferenceIdeal.Gen

/-- The reference's one product, transposed operand and broadcast bias, entry by entry. -/
theorem term_eq (h : FVec Ideal S2048x1024 .bf16) (W : FVec Ideal S32000x1024 .f32) (b : FVec Ideal S32000 .f32) :
    addf (Host.dotGeneral dot_S2048x1024_S1024x32000_S2048x32000_1_0_0_1_n_n none (extf .f32 h bitsLt_bf16_f32)
        (transpose S1024x32000 [1, 0] W transposes_S32000x1024_S1024x32000_1_0))
      (broadcastInDim S2048x32000 ![0, 1] bcast_S1x32000_S2048x32000_0_1 (broadcastInDim S1x32000 ![1] bcast_S32000_S1x32000_1 b))
      = scores h W b := by
  funext i
  obtain ⟨s, v, rfl⟩ : ∃ (s : Fin 2048) (v : Fin 32000), i = ix2 s v := ⟨i 0, i 1, eq_ix2 i⟩
  refine congrArg₂ (· + ·) ?_ (by simp only [pointwise]; rfl)
  refine (Ideal.matmul_apply₁ _ (a := 1) (K := 1024) rfl rfl _ _ _ _).trans ?_
  simp only [pointwise, zero_add]

end ReferenceSide

theorem frame_kernel : Cert.quiescent_Vocab := fun m g _ => Cert.Vocab.Gen.frame m g

theorem frame_kernelIdeal : Cert.quiescent_VocabIdeal := fun m g _ => Cert.VocabIdeal.Gen.frame m g

theorem frame_reference : Cert.quiescent_VocabReferenceIdeal := fun m g _ =>
  (θ_run Cert.VocabReferenceIdeal.defs _ _).mono (fun r h => ⟨fun c => (h c).2, sem_eq_zero_of_no_sems (by decide) r.2⟩)
    (Cert.VocabReferenceIdeal.Value.run (F := Ideal) m g)

/-- The stage and the reference end with the same scores. -/
theorem algebraic : Cert.algebraic_VocabIdeal_VocabReferenceIdeal := fun m g m' g' _ hm => by
  refine ⟨fun c => scores (m ((c.tc : Thread Cert.VocabIdeal.nD Cert.VocabIdeal.τ).loc Cert.VocabIdeal.main_arg0))
    (m ((c.tc : Thread Cert.VocabIdeal.nD Cert.VocabIdeal.τ).loc Cert.VocabIdeal.main_arg1))
    (m ((c.tc : Thread Cert.VocabIdeal.nD Cert.VocabIdeal.τ).loc Cert.VocabIdeal.main_arg2)), ?_, ?_⟩
  · exact (θ_run Cert.VocabIdeal.defs _ _).mono (fun r hr c => ⟨(hr c).1.trans (KernelSide.final m c), (hr c).2⟩)
      (Cert.VocabIdeal.Value.run_blocks m g)
  · refine (θ_run Cert.VocabReferenceIdeal.defs _ _).mono (fun r hr c => ⟨(hr c).1.trans ?_, (hr c).2⟩)
      (Cert.VocabReferenceIdeal.Value.run (F := Ideal) m' g')
    rw [(hm c).1, (hm c).2.1, (hm c).2.2]
    exact ReferenceSide.term_eq _ _ _

end VocabValue
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tokens_in_vocab
public import proofs.«01_k».proof.Proof.Gen.Vocab
public import proofs.«01_k».proof.Proof.Gen.VocabIdeal
public import proofs.«01_k».proof.Proof.Gen.VocabReferenceIdeal
public import proofs.«01_k».proof.Proof.Gen.VocabIdeal.Value
public import proofs.«01_k».proof.Proof.Gen.Vocab.Frame
public import proofs.«01_k».proof.Proof.Gen.VocabIdeal.Frame
public import proofs.«01_k».proof.Proof.Gen.VocabReferenceIdeal.Run
public import proofs.«01_k».proof.Proof.Whole
public import proofs.«01_k».proof.Proof.VocabValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Vocab.Gen.facts, Cert.VocabIdeal.Gen.facts,
  Cert.VocabReferenceIdeal.Gen.facts, Cert.Pre_tokens_in_vocab.Gen.facts, Finite.facts,
  Claims.frame_kernel, Claims.frame_kernelIdeal, Claims.frame_kernelIdeal_pre, Claims.frame_reference, Claims.frame_reference_pre,
  VocabValue.frame_kernel, VocabValue.frame_kernelIdeal, VocabValue.frame_reference,
  trivial, Claims.algebraic, trivial, VocabValue.algebraic⟩

end Cert.Proof

end
